-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_plus_infinity [hPre_no_plus_infinity : Cert.Pre_no_plus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_no_plus_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_plus_infinity [hPre_no_plus_infinity : Cert.Pre_no_plus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_plus_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_plus_infinity [hKernelIdeal : Cert.KernelIdeal.Facts] [hPre_no_plus_infinity : Cert.Pre_no_plus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_plus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_plus_infinity [hReferenceIdeal : Cert.ReferenceIdeal.Facts] [hPre_no_plus_infinity : Cert.Pre_no_plus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_plus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_plus_infinity [hKernelIdeal : Cert.KernelIdeal.Facts] [hReferenceIdeal : Cert.ReferenceIdeal.Facts] [hPre_no_plus_infinity : Cert.Pre_no_plus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_plus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_plus_infinity : Cert.Pre_no_plus_infinity.Facts),
    quiescent_Kernel (hKernel := hKernel)
    ∧ quiescent_KernelIdeal (hKernelIdeal := hKernelIdeal)
    ∧ quiescent_KernelIdeal_pre_no_plus_infinity (hKernelIdeal := hKernelIdeal) (hPre_no_plus_infinity := hPre_no_plus_infinity)
    ∧ quiescent_ReferenceIdeal (hReferenceIdeal := hReferenceIdeal)
    ∧ quiescent_ReferenceIdeal_pre_no_plus_infinity (hReferenceIdeal := hReferenceIdeal) (hPre_no_plus_infinity := hPre_no_plus_infinity)
    ∧ preserves_Kernel_KernelIdeal
    ∧ algebraic_KernelIdeal_ReferenceIdeal_pre_no_plus_infinity (hKernelIdeal := hKernelIdeal) (hReferenceIdeal := hReferenceIdeal) (hPre_no_plus_infinity := hPre_no_plus_infinity)
-- ==== Pre_no_plus_infinity.lean ====
abbrev S32x1000000 : Shape := ⟨2, ![32, 1000000]⟩
abbrev S_ : Shape := ⟨0, ![]⟩

class Facts : Prop where
  bcast_S_S32x1000000 : S_.BroadcastsInDim S32x1000000 (![] : Fin 0 → Fin S32x1000000.rank)

variable [Facts]

def fn {F : FTy → Type} [FloatOps F] (main_arg0 : FVec F S32x1000000 .f32) : IVec S32x1000000 1 :=
  let main_cst : FVec F S_ .f32 := constant S_ .f32 0x7F800000#32
  let main_v0 : FVec F S32x1000000 .f32 := broadcastInDim S32x1000000 ![] bcast_S_S32x1000000 main_cst
  let main_v1 : IVec S32x1000000 1 := cmpf .olt main_arg0 main_v0
  main_v1
-- ==== Kernel.lean ====
abbrev S32x1000000 : Shape := ⟨2, ![32, 1000000]⟩
abbrev S32x1 : Shape := ⟨2, ![32, 1]⟩
abbrev S32x8192 : Shape := ⟨2, ![32, 8192]⟩
abbrev S32 : Shape := ⟨1, ![32]⟩

abbrev nBuf : Space → Nat
  | .hbm => 2
  | .vmem => 6
  | .smem => 0
  | _ => 0

abbrev bufTy : (tb : Table) → Fin (tcTables nBuf tb) → BufTy
  | .hbm, ⟨0, _⟩ => ⟨S32x1000000, .f32⟩
  | .hbm, ⟨1, _⟩ => ⟨S32x1, .i32⟩
  | .local _ .vmem, ⟨0, _⟩ => ⟨S32x8192, .f32⟩
  | .local _ .vmem, ⟨1, _⟩ => ⟨S32x8192, .f32⟩
  | .local _ .vmem, ⟨2, _⟩ => ⟨S32x1, .i32⟩
  | .local _ .vmem, ⟨3, _⟩ => ⟨S32x8192, .f32⟩
  | .local _ .vmem, ⟨4, _⟩ => ⟨S32x8192, .i32⟩
  | .local _ .vmem, ⟨5, _⟩ => ⟨S32x8192, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![123], ![false]⟩

def k0_cond2 (i : grid0.Coords) : BitVec 1 :=
  let arg0 : BitVec 32 := BitVec.ofNat 32 (i 0).val
  let c122_i32 : BitVec 32 := 122#32
  let v216 : BitVec 1 := Scalar.cmpi .eq arg0 c122_i32
  let v217 : BitVec 32 := Scalar.extui v216
  let c0_i32_58 : BitVec 32 := 0#32
  let v218 : BitVec 1 := Scalar.cmpi .ne v217 c0_i32_58
  v218

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S1 : Shape := ⟨1, ![1]⟩
abbrev S2 : Shape := ⟨1, ![2]⟩

abbrev nBuf : Space → Nat
  | .hbm => 294
  | .vmem => 0
  | .smem => 0
  | _ => 0

abbrev hbmTy0_0 (i : Nat) : BufTy := match i % 128 with
  | 0 => ⟨S32x1000000, .f32⟩
  | 1 => ⟨S_, .f32⟩
  | 2 => ⟨S32x1000000, .f32⟩
  | 3 => ⟨S32x1000000, .f32⟩
  | 4 => ⟨S_, .f32⟩
  | 5 => ⟨S32, .f32⟩
  | 6 => ⟨S_, .f32⟩
  | 7 => ⟨S32, .f32⟩
  | 8 => ⟨S32, .f32⟩
  | 9 => ⟨S32x1, .f32⟩
  | 10 => ⟨S32x1000000, .f32⟩
  | 11 => ⟨S32x1000000, .f32⟩
  | 12 => ⟨S32x1000000, .f32⟩
  | 13 => ⟨S_, .f32⟩
  | 14 => ⟨S32, .f32⟩
  | 15 => ⟨S32x1, .f32⟩
  | 16 => ⟨S32x1000000, .f32⟩
  | 17 => ⟨S32x1000000, .f32⟩
  | 18 => ⟨S_, .i32⟩
  | 19 => ⟨S_, .i32⟩
  | 20 => ⟨S_, .i32⟩
  | 21 => ⟨S_, .i32⟩
  | 22 => ⟨S1, .i32⟩
  | 23 => ⟨S_, .i32⟩
  | 24 => ⟨S_, .i32⟩
  | 25 => ⟨S_, .i32⟩
  | 26 => ⟨S1, .i32⟩
  | 27 => ⟨S2, .i32⟩
  | 28 => ⟨S1, .i32⟩
  | 29 => ⟨S_, .i32⟩
  | 30 => ⟨S1, .i32⟩
  | 31 => ⟨S_, .i32⟩
  | 32 => ⟨S32x1000000, .i64⟩
  | 33 => ⟨S32x1000000, .i64⟩
  | 34 => ⟨S_, .i64⟩
  | 35 => ⟨S32x1000000, .i64⟩
  | 36 => ⟨S32x1000000, .i64⟩
  | 37 => ⟨S_, .i64⟩
  | 38 => ⟨S32x1000000, .i64⟩
  | 39 => ⟨S32x1000000, .i64⟩
  | 40 => ⟨S32x1000000, .i64⟩
  | 41 => ⟨S_, .i64⟩
  | 42 => ⟨S32x1000000, .i64⟩
  | 43 => ⟨S32x1000000, .i64⟩
  | 44 => ⟨S32x1000000, .i32⟩
  | 45 => ⟨S32x1000000, .i32⟩
  | 46 => ⟨S_, .i32⟩
  | 47 => ⟨S_, .i32⟩
  | 48 => ⟨S_, .i32⟩
  | 49 => ⟨S32x1000000, .i32⟩
  | 50 => ⟨S32x1000000, .i32⟩
  | 51 => ⟨S32x1000000, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S_, .i32⟩
  | 58 => ⟨S32x1000000, .i32⟩
  | 59 => ⟨S32x1000000, .i32⟩
  | 60 => ⟨S32x1000000, .i32⟩
  | 61 => ⟨S32x1000000, .i32⟩
  | 62 => ⟨S32x1000000, .i32⟩
  | 63 => ⟨S_, .i32⟩
  | 64 => ⟨S32x1000000, .i32⟩
  | 65 => ⟨S32x1000000, .i32⟩
  | 66 => ⟨S_, .i32⟩
  | 67 => ⟨S32x1000000, .i32⟩
  | 68 => ⟨S32x1000000, .i32⟩
  | 69 => ⟨S32x1000000, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S_, .i32⟩
  | 76 => ⟨S32x1000000, .i32⟩
  | 77 => ⟨S32x1000000, .i32⟩
  | 78 => ⟨S32x1000000, .i32⟩
  | 79 => ⟨S32x1000000, .i32⟩
  | 80 => ⟨S32x1000000, .i32⟩
  | 81 => ⟨S_, .i32⟩
  | 82 => ⟨S32x1000000, .i32⟩
  | 83 => ⟨S32x1000000, .i32⟩
  | 84 => ⟨S_, .i32⟩
  | 85 => ⟨S32x1000000, .i32⟩
  | 86 => ⟨S32x1000000, .i32⟩
  | 87 => ⟨S32x1000000, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S32x1000000, .i32⟩
  | 97 => ⟨S_, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S32x1000000, .i32⟩
  | 104 => ⟨S32x1000000, .i32⟩
  | 105 => ⟨S32x1000000, .i32⟩
  | 106 => ⟨S_, .i32⟩
  | 107 => ⟨S32x1000000, .i32⟩
  | 108 => ⟨S32x1000000, .i32⟩
  | 109 => ⟨S_, .i32⟩
  | 110 => ⟨S32x1000000, .i32⟩
  | 111 => ⟨S32x1000000, .i32⟩
  | 112 => ⟨S32x1000000, .i32⟩
  | 113 => ⟨S32x1000000, .i32⟩
  | 114 => ⟨S32x1000000, .i32⟩
  | 115 => ⟨S_, .i32⟩
  | 116 => ⟨S32x1000000, .i32⟩
  | 117 => ⟨S32x1000000, .i32⟩
  | 118 => ⟨S_, .i32⟩
  | 119 => ⟨S32x1000000, .i32⟩
  | 120 => ⟨S32x1000000, .i32⟩
  | 121 => ⟨S32x1000000, .i32⟩
  | 122 => ⟨S32x1000000, .i32⟩
  | 123 => ⟨S32x1000000, .i32⟩
  | 124 => ⟨S_, .i32⟩
  | 125 => ⟨S32x1000000, .i32⟩
  | 126 => ⟨S32x1000000, .i32⟩
  | 127 => ⟨S_, .i32⟩
  | _ => ⟨S32x1000000, .f32⟩

abbrev hbmTy0_1 (i : Nat) : BufTy := match i % 128 with
  | 0 => ⟨S32x1000000, .i32⟩
  | 1 => ⟨S32x1000000, .i32⟩
  | 2 => ⟨S32x1000000, .i32⟩
  | 3 => ⟨S32x1000000, .i32⟩
  | 4 => ⟨S32x1000000, .i32⟩
  | 5 => ⟨S32x1000000, .i32⟩
  | 6 => ⟨S32x1000000, .i32⟩
  | 7 => ⟨S32x1000000, .i32⟩
  | 8 => ⟨S_, .i32⟩
  | 9 => ⟨S32x1000000, .i32⟩
  | 10 => ⟨S32x1000000, .i32⟩
  | 11 => ⟨S32x1000000, .i32⟩
  | 12 => ⟨S_, .i32⟩
  | 13 => ⟨S32x1000000, .i32⟩
  | 14 => ⟨S32x1000000, .i32⟩
  | 15 => ⟨S_, .i32⟩
  | 16 => ⟨S32x1000000, .i32⟩
  | 17 => ⟨S32x1000000, .i32⟩
  | 18 => ⟨S32x1000000, .i32⟩
  | 19 => ⟨S32x1000000, .i32⟩
  | 20 => ⟨S32x1000000, .i32⟩
  | 21 => ⟨S_, .i32⟩
  | 22 => ⟨S32x1000000, .i32⟩
  | 23 => ⟨S32x1000000, .i32⟩
  | 24 => ⟨S_, .i32⟩
  | 25 => ⟨S32x1000000, .i32⟩
  | 26 => ⟨S32x1000000, .i32⟩
  | 27 => ⟨S32x1000000, .i32⟩
  | 28 => ⟨S32x1000000, .i32⟩
  | 29 => ⟨S32x1000000, .i32⟩
  | 30 => ⟨S_, .i32⟩
  | 31 => ⟨S32x1000000, .i32⟩
  | 32 => ⟨S32x1000000, .i32⟩
  | 33 => ⟨S_, .i32⟩
  | 34 => ⟨S32x1000000, .i32⟩
  | 35 => ⟨S32x1000000, .i32⟩
  | 36 => ⟨S32x1000000, .i32⟩
  | 37 => ⟨S32x1000000, .i32⟩
  | 38 => ⟨S32x1000000, .i32⟩
  | 39 => ⟨S_, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S32x1000000, .i32⟩
  | 46 => ⟨S32x1000000, .i32⟩
  | 47 => ⟨S32x1000000, .i32⟩
  | 48 => ⟨S32x1000000, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S32x1000000, .i32⟩
  | 55 => ⟨S_, .i32⟩
  | 56 => ⟨S32x1000000, .i32⟩
  | 57 => ⟨S32x1000000, .i32⟩
  | 58 => ⟨S_, .i32⟩
  | 59 => ⟨S32x1000000, .i32⟩
  | 60 => ⟨S32x1000000, .i32⟩
  | 61 => ⟨S32x1000000, .i32⟩
  | 62 => ⟨S32x1000000, .i32⟩
  | 63 => ⟨S32x1000000, .i32⟩
  | 64 => ⟨S_, .i32⟩
  | 65 => ⟨S32x1000000, .i32⟩
  | 66 => ⟨S32x1000000, .i32⟩
  | 67 => ⟨S_, .i32⟩
  | 68 => ⟨S32x1000000, .i32⟩
  | 69 => ⟨S32x1000000, .i32⟩
  | 70 => ⟨S32x1000000, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S32x1000000, .i32⟩
  | 98 => ⟨S_, .i32⟩
  | 99 => ⟨S32x1000000, .i32⟩
  | 100 => ⟨S32x1000000, .i32⟩
  | 101 => ⟨S_, .i32⟩
  | 102 => ⟨S32x1000000, .i32⟩
  | 103 => ⟨S32x1000000, .i32⟩
  | 104 => ⟨S32x1000000, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S32x1000000, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S_, .i32⟩
  | 126 => ⟨S32x1000000, .i32⟩
  | 127 => ⟨S32x1000000, .i32⟩
  | _ => ⟨S32x1000000, .f32⟩

abbrev hbmTy0_2 (i : Nat) : BufTy := match i % 128 with
  | 0 => ⟨S_, .i32⟩
  | 1 => ⟨S32x1000000, .i32⟩
  | 2 => ⟨S32x1000000, .i32⟩
  | 3 => ⟨S32x1000000, .i32⟩
  | 4 => ⟨S32x1000000, .i32⟩
  | 5 => ⟨S32x1000000, .i32⟩
  | 6 => ⟨S32x1000000, .i32⟩
  | 7 => ⟨S32x1000000, .i32⟩
  | 8 => ⟨S32x1000000, .i32⟩
  | 9 => ⟨S_, .i32⟩
  | 10 => ⟨S32x1000000, .i32⟩
  | 11 => ⟨S32x1000000, .i32⟩
  | 12 => ⟨S32x1000000, .i32⟩
  | 13 => ⟨S_, .i32⟩
  | 14 => ⟨S32x1000000, .i32⟩
  | 15 => ⟨S32x1000000, .i32⟩
  | 16 => ⟨S_, .i32⟩
  | 17 => ⟨S32x1000000, .i32⟩
  | 18 => ⟨S32x1000000, .i32⟩
  | 19 => ⟨S32x1000000, .f32⟩
  | 20 => ⟨S_, .f32⟩
  | 21 => ⟨S32x1000000, .f32⟩
  | 22 => ⟨S32x1000000, .f32⟩
  | 23 => ⟨S_, .f32⟩
  | 24 => ⟨S32x1000000, .f32⟩
  | 25 => ⟨S32x1000000, .f32⟩
  | 26 => ⟨S32x1000000, .f32⟩
  | 27 => ⟨S32x1000000, .f32⟩
  | 28 => ⟨S32x1000000, .f32⟩
  | 29 => ⟨S32x1000000, .f32⟩
  | 30 => ⟨S32x1000000, .f32⟩
  | 31 => ⟨S32x1000000, .f32⟩
  | 32 => ⟨S32x1000000, .i32⟩
  | 33 => ⟨S_, .f32⟩
  | 34 => ⟨S_, .i32⟩
  | 35 => ⟨S32, .f32⟩
  | 36 => ⟨S32, .i32⟩
  | 37 => ⟨S32x1, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_c_0 : Ref sig .tc := ⟨.hbm, 54, rfl⟩
abbrev main_call0_v7 : Ref sig .tc := ⟨.hbm, 55, rfl⟩
abbrev main_call0_v8 : Ref sig .tc := ⟨.hbm, 56, rfl⟩
abbrev main_call0_c_1 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_v13 : Ref sig .tc := ⟨.hbm, 62, rfl⟩
abbrev main_call0_c_2 : Ref sig .tc := ⟨.hbm, 63, rfl⟩
abbrev main_call0_v14 : Ref sig .tc := ⟨.hbm, 64, rfl⟩
abbrev main_call0_v15 : Ref sig .tc := ⟨.hbm, 65, rfl⟩
abbrev main_call0_c_3 : Ref sig .tc := ⟨.hbm, 66, rfl⟩
abbrev main_call0_v16 : Ref sig .tc := ⟨.hbm, 67, rfl⟩
abbrev main_call0_v17 : Ref sig .tc := ⟨.hbm, 68, rfl⟩
abbrev main_call0_v18 : Ref sig .tc := ⟨.hbm, 69, rfl⟩
abbrev main_call0_v19 : Ref sig .tc := ⟨.hbm, 70, rfl⟩
abbrev main_call0_v20 : Ref sig .tc := ⟨.hbm, 71, rfl⟩
abbrev main_call0_c_4 : Ref sig .tc := ⟨.hbm, 72, rfl⟩
abbrev main_call0_v21 : Ref sig .tc := ⟨.hbm, 73, rfl⟩
abbrev main_call0_v22 : Ref sig .tc := ⟨.hbm, 74, rfl⟩
abbrev main_call0_c_5 : Ref sig .tc := ⟨.hbm, 75, rfl⟩
abbrev main_call0_v23 : Ref sig .tc := ⟨.hbm, 76, rfl⟩
abbrev main_call0_v24 : Ref sig .tc := ⟨.hbm, 77, rfl⟩
abbrev main_call0_v25 : Ref sig .tc := ⟨.hbm, 78, rfl⟩
abbrev main_call0_v26 : Ref sig .tc := ⟨.hbm, 79, rfl⟩
abbrev main_call0_v27 : Ref sig .tc := ⟨.hbm, 80, rfl⟩
abbrev main_call0_c_6 : Ref sig .tc := ⟨.hbm, 81, rfl⟩
abbrev main_call0_v28 : Ref sig .tc := ⟨.hbm, 82, rfl⟩
abbrev main_call0_v29 : Ref sig .tc := ⟨.hbm, 83, rfl⟩
abbrev main_call0_c_7 : Ref sig .tc := ⟨.hbm, 84, rfl⟩
abbrev main_call0_v30 : Ref sig .tc := ⟨.hbm, 85, rfl⟩
abbrev main_call0_v31 : Ref sig .tc := ⟨.hbm, 86, rfl⟩
abbrev main_call0_v32 : Ref sig .tc := ⟨.hbm, 87, rfl⟩
abbrev main_call0_v33 : Ref sig .tc := ⟨.hbm, 88, rfl⟩
abbrev main_call0_v34 : Ref sig .tc := ⟨.hbm, 89, rfl⟩
abbrev main_call0_v35 : Ref sig .tc := ⟨.hbm, 90, rfl⟩
abbrev main_call0_v36 : Ref sig .tc := ⟨.hbm, 91, rfl⟩
abbrev main_call0_v37 : Ref sig .tc := ⟨.hbm, 92, rfl⟩
abbrev main_call0_c_8 : Ref sig .tc := ⟨.hbm, 93, rfl⟩
abbrev main_call0_v38 : Ref sig .tc := ⟨.hbm, 94, rfl⟩
abbrev main_call0_v39 : Ref sig .tc := ⟨.hbm, 95, rfl⟩
abbrev main_call0_v40 : Ref sig .tc := ⟨.hbm, 96, rfl⟩
abbrev main_call0_c_9 : Ref sig .tc := ⟨.hbm, 97, rfl⟩
abbrev main_call0_v41 : Ref sig .tc := ⟨.hbm, 98, rfl⟩
abbrev main_call0_v42 : Ref sig .tc := ⟨.hbm, 99, rfl⟩
abbrev main_call0_c_10 : Ref sig .tc := ⟨.hbm, 100, rfl⟩
abbrev main_call0_v43 : Ref sig .tc := ⟨.hbm, 101, rfl⟩
abbrev main_call0_v44 : Ref sig .tc := ⟨.hbm, 102, rfl⟩
abbrev main_call0_v45 : Ref sig .tc := ⟨.hbm, 103, rfl⟩
abbrev main_call0_v46 : Ref sig .tc := ⟨.hbm, 104, rfl⟩
abbrev main_call0_v47 : Ref sig .tc := ⟨.hbm, 105, rfl⟩
abbrev main_call0_c_11 : Ref sig .tc := ⟨.hbm, 106, rfl⟩
abbrev main_call0_v48 : Ref sig .tc := ⟨.hbm, 107, rfl⟩
abbrev main_call0_v49 : Ref sig .tc := ⟨.hbm, 108, rfl⟩
abbrev main_call0_c_12 : Ref sig .tc := ⟨.hbm, 109, rfl⟩
abbrev main_call0_v50 : Ref sig .tc := ⟨.hbm, 110, rfl⟩
abbrev main_call0_v51 : Ref sig .tc := ⟨.hbm, 111, rfl⟩
abbrev main_call0_v52 : Ref sig .tc := ⟨.hbm, 112, rfl⟩
abbrev main_call0_v53 : Ref sig .tc := ⟨.hbm, 113, rfl⟩
abbrev main_call0_v54 : Ref sig .tc := ⟨.hbm, 114, rfl⟩
abbrev main_call0_c_13 : Ref sig .tc := ⟨.hbm, 115, rfl⟩
abbrev main_call0_v55 : Ref sig .tc := ⟨.hbm, 116, rfl⟩
abbrev main_call0_v56 : Ref sig .tc := ⟨.hbm, 117, rfl⟩
abbrev main_call0_c_14 : Ref sig .tc := ⟨.hbm, 118, rfl⟩
abbrev main_call0_v57 : Ref sig .tc := ⟨.hbm, 119, rfl⟩
abbrev main_call0_v58 : Ref sig .tc := ⟨.hbm, 120, rfl⟩
abbrev main_call0_v59 : Ref sig .tc := ⟨.hbm, 121, rfl⟩
abbrev main_call0_v60 : Ref sig .tc := ⟨.hbm, 122, rfl⟩
abbrev main_call0_v61 : Ref sig .tc := ⟨.hbm, 123, rfl⟩
abbrev main_call0_c_15 : Ref sig .tc := ⟨.hbm, 124, rfl⟩
abbrev main_call0_v62 : Ref sig .tc := ⟨.hbm, 125, rfl⟩
abbrev main_call0_v63 : Ref sig .tc := ⟨.hbm, 126, rfl⟩
abbrev main_call0_c_16 : Ref sig .tc := ⟨.hbm, 127, rfl⟩
abbrev main_call0_v64 : Ref sig .tc := ⟨.hbm, 128, rfl⟩
abbrev main_call0_v65 : Ref sig .tc := ⟨.hbm, 129, rfl⟩
abbrev main_call0_v66 : Ref sig .tc := ⟨.hbm, 130, rfl⟩
abbrev main_call0_v67 : Ref sig .tc := ⟨.hbm, 131, rfl⟩
abbrev main_call0_v68 : Ref sig .tc := ⟨.hbm, 132, rfl⟩
abbrev main_call0_v69 : Ref sig .tc := ⟨.hbm, 133, rfl⟩
abbrev main_call0_v70 : Ref sig .tc := ⟨.hbm, 134, rfl⟩
abbrev main_call0_v71 : Ref sig .tc := ⟨.hbm, 135, rfl⟩
abbrev main_call0_c_17 : Ref sig .tc := ⟨.hbm, 136, rfl⟩
abbrev main_call0_v72 : Ref sig .tc := ⟨.hbm, 137, rfl⟩
abbrev main_call0_v73 : Ref sig .tc := ⟨.hbm, 138, rfl⟩
abbrev main_call0_v74 : Ref sig .tc := ⟨.hbm, 139, rfl⟩
abbrev main_call0_c_18 : Ref sig .tc := ⟨.hbm, 140, rfl⟩
abbrev main_call0_v75 : Ref sig .tc := ⟨.hbm, 141, rfl⟩
abbrev main_call0_v76 : Ref sig .tc := ⟨.hbm, 142, rfl⟩
abbrev main_call0_c_19 : Ref sig .tc := ⟨.hbm, 143, rfl⟩
abbrev main_call0_v77 : Ref sig .tc := ⟨.hbm, 144, rfl⟩
abbrev main_call0_v78 : Ref sig .tc := ⟨.hbm, 145, rfl⟩
abbrev main_call0_v79 : Ref sig .tc := ⟨.hbm, 146, rfl⟩
abbrev main_call0_v80 : Ref sig .tc := ⟨.hbm, 147, rfl⟩
abbrev main_call0_v81 : Ref sig .tc := ⟨.hbm, 148, rfl⟩
abbrev main_call0_c_20 : Ref sig .tc := ⟨.hbm, 149, rfl⟩
abbrev main_call0_v82 : Ref sig .tc := ⟨.hbm, 150, rfl⟩
abbrev main_call0_v83 : Ref sig .tc := ⟨.hbm, 151, rfl⟩
abbrev main_call0_c_21 : Ref sig .tc := ⟨.hbm, 152, rfl⟩
abbrev main_call0_v84 : Ref sig .tc := ⟨.hbm, 153, rfl⟩
abbrev main_call0_v85 : Ref sig .tc := ⟨.hbm, 154, rfl⟩
abbrev main_call0_v86 : Ref sig .tc := ⟨.hbm, 155, rfl⟩
abbrev main_call0_v87 : Ref sig .tc := ⟨.hbm, 156, rfl⟩
abbrev main_call0_v88 : Ref sig .tc := ⟨.hbm, 157, rfl⟩
abbrev main_call0_c_22 : Ref sig .tc := ⟨.hbm, 158, rfl⟩
abbrev main_call0_v89 : Ref sig .tc := ⟨.hbm, 159, rfl⟩
abbrev main_call0_v90 : Ref sig .tc := ⟨.hbm, 160, rfl⟩
abbrev main_call0_c_23 : Ref sig .tc := ⟨.hbm, 161, rfl⟩
abbrev main_call0_v91 : Ref sig .tc := ⟨.hbm, 162, rfl⟩
abbrev main_call0_v92 : Ref sig .tc := ⟨.hbm, 163, rfl⟩
abbrev main_call0_v93 : Ref sig .tc := ⟨.hbm, 164, rfl⟩
abbrev main_call0_v94 : Ref sig .tc := ⟨.hbm, 165, rfl⟩
abbrev main_call0_v95 : Ref sig .tc := ⟨.hbm, 166, rfl⟩
abbrev main_call0_c_24 : Ref sig .tc := ⟨.hbm, 167, rfl⟩
abbrev main_call0_v96 : Ref sig .tc := ⟨.hbm, 168, rfl⟩
abbrev main_call0_v97 : Ref sig .tc := ⟨.hbm, 169, rfl⟩
abbrev main_call0_c_25 : Ref sig .tc := ⟨.hbm, 170, rfl⟩
abbrev main_call0_v98 : Ref sig .tc := ⟨.hbm, 171, rfl⟩
abbrev main_call0_v99 : Ref sig .tc := ⟨.hbm, 172, rfl⟩
abbrev main_call0_v100 : Ref sig .tc := ⟨.hbm, 173, rfl⟩
abbrev main_call0_v101 : Ref sig .tc := ⟨.hbm, 174, rfl⟩
abbrev main_call0_v102 : Ref sig .tc := ⟨.hbm, 175, rfl⟩
abbrev main_call0_v103 : Ref sig .tc := ⟨.hbm, 176, rfl⟩
abbrev main_call0_v104 : Ref sig .tc := ⟨.hbm, 177, rfl⟩
abbrev main_call0_v105 : Ref sig .tc := ⟨.hbm, 178, rfl⟩
abbrev main_call0_c_26 : Ref sig .tc := ⟨.hbm, 179, rfl⟩
abbrev main_call0_v106 : Ref sig .tc := ⟨.hbm, 180, rfl⟩
abbrev main_call0_v107 : Ref sig .tc := ⟨.hbm, 181, rfl⟩
abbrev main_call0_v108 : Ref sig .tc := ⟨.hbm, 182, rfl⟩
abbrev main_call0_c_27 : Ref sig .tc := ⟨.hbm, 183, rfl⟩
abbrev main_call0_v109 : Ref sig .tc := ⟨.hbm, 184, rfl⟩
abbrev main_call0_v110 : Ref sig .tc := ⟨.hbm, 185, rfl⟩
abbrev main_call0_c_28 : Ref sig .tc := ⟨.hbm, 186, rfl⟩
abbrev main_call0_v111 : Ref sig .tc := ⟨.hbm, 187, rfl⟩
abbrev main_call0_v112 : Ref sig .tc := ⟨.hbm, 188, rfl⟩
abbrev main_call0_v113 : Ref sig .tc := ⟨.hbm, 189, rfl⟩
abbrev main_call0_v114 : Ref sig .tc := ⟨.hbm, 190, rfl⟩
abbrev main_call0_v115 : Ref sig .tc := ⟨.hbm, 191, rfl⟩
abbrev main_call0_c_29 : Ref sig .tc := ⟨.hbm, 192, rfl⟩
abbrev main_call0_v116 : Ref sig .tc := ⟨.hbm, 193, rfl⟩
abbrev main_call0_v117 : Ref sig .tc := ⟨.hbm, 194, rfl⟩
abbrev main_call0_c_30 : Ref sig .tc := ⟨.hbm, 195, rfl⟩
abbrev main_call0_v118 : Ref sig .tc := ⟨.hbm, 196, rfl⟩
abbrev main_call0_v119 : Ref sig .tc := ⟨.hbm, 197, rfl⟩
abbrev main_call0_v120 : Ref sig .tc := ⟨.hbm, 198, rfl⟩
abbrev main_call0_v121 : Ref sig .tc := ⟨.hbm, 199, rfl⟩
abbrev main_call0_v122 : Ref sig .tc := ⟨.hbm, 200, rfl⟩
abbrev main_call0_c_31 : Ref sig .tc := ⟨.hbm, 201, rfl⟩
abbrev main_call0_v123 : Ref sig .tc := ⟨.hbm, 202, rfl⟩
abbrev main_call0_v124 : Ref sig .tc := ⟨.hbm, 203, rfl⟩
abbrev main_call0_c_32 : Ref sig .tc := ⟨.hbm, 204, rfl⟩
abbrev main_call0_v125 : Ref sig .tc := ⟨.hbm, 205, rfl⟩
abbrev main_call0_v126 : Ref sig .tc := ⟨.hbm, 206, rfl⟩
abbrev main_call0_v127 : Ref sig .tc := ⟨.hbm, 207, rfl⟩
abbrev main_call0_v128 : Ref sig .tc := ⟨.hbm, 208, rfl⟩
abbrev main_call0_v129 : Ref sig .tc := ⟨.hbm, 209, rfl⟩
abbrev main_call0_c_33 : Ref sig .tc := ⟨.hbm, 210, rfl⟩
abbrev main_call0_v130 : Ref sig .tc := ⟨.hbm, 211, rfl⟩
abbrev main_call0_v131 : Ref sig .tc := ⟨.hbm, 212, rfl⟩
abbrev main_call0_c_34 : Ref sig .tc := ⟨.hbm, 213, rfl⟩
abbrev main_call0_v132 : Ref sig .tc := ⟨.hbm, 214, rfl⟩
abbrev main_call0_v133 : Ref sig .tc := ⟨.hbm, 215, rfl⟩
abbrev main_call0_v134 : Ref sig .tc := ⟨.hbm, 216, rfl⟩
abbrev main_call0_v135 : Ref sig .tc := ⟨.hbm, 217, rfl⟩
abbrev main_call0_v136 : Ref sig .tc := ⟨.hbm, 218, rfl⟩
abbrev main_call0_v137 : Ref sig .tc := ⟨.hbm, 219, rfl⟩
abbrev main_call0_v138 : Ref sig .tc := ⟨.hbm, 220, rfl⟩
abbrev main_call0_v139 : Ref sig .tc := ⟨.hbm, 221, rfl⟩
abbrev main_call0_c_35 : Ref sig .tc := ⟨.hbm, 222, rfl⟩
abbrev main_call0_v140 : Ref sig .tc := ⟨.hbm, 223, rfl⟩
abbrev main_call0_v141 : Ref sig .tc := ⟨.hbm, 224, rfl⟩
abbrev main_call0_v142 : Ref sig .tc := ⟨.hbm, 225, rfl⟩
abbrev main_call0_c_36 : Ref sig .tc := ⟨.hbm, 226, rfl⟩
abbrev main_call0_v143 : Ref sig .tc := ⟨.hbm, 227, rfl⟩
abbrev main_call0_v144 : Ref sig .tc := ⟨.hbm, 228, rfl⟩
abbrev main_call0_c_37 : Ref sig .tc := ⟨.hbm, 229, rfl⟩
abbrev main_call0_v145 : Ref sig .tc := ⟨.hbm, 230, rfl⟩
abbrev main_call0_v146 : Ref sig .tc := ⟨.hbm, 231, rfl⟩
abbrev main_call0_v147 : Ref sig .tc := ⟨.hbm, 232, rfl⟩
abbrev main_call0_v148 : Ref sig .tc := ⟨.hbm, 233, rfl⟩
abbrev main_call0_v149 : Ref sig .tc := ⟨.hbm, 234, rfl⟩
abbrev main_call0_c_38 : Ref sig .tc := ⟨.hbm, 235, rfl⟩
abbrev main_call0_v150 : Ref sig .tc := ⟨.hbm, 236, rfl⟩
abbrev main_call0_v151 : Ref sig .tc := ⟨.hbm, 237, rfl⟩
abbrev main_call0_c_39 : Ref sig .tc := ⟨.hbm, 238, rfl⟩
abbrev main_call0_v152 : Ref sig .tc := ⟨.hbm, 239, rfl⟩
abbrev main_call0_v153 : Ref sig .tc := ⟨.hbm, 240, rfl⟩
abbrev main_call0_v154 : Ref sig .tc := ⟨.hbm, 241, rfl⟩
abbrev main_call0_v155 : Ref sig .tc := ⟨.hbm, 242, rfl⟩
abbrev main_call0_v156 : Ref sig .tc := ⟨.hbm, 243, rfl⟩
abbrev main_call0_c_40 : Ref sig .tc := ⟨.hbm, 244, rfl⟩
abbrev main_call0_v157 : Ref sig .tc := ⟨.hbm, 245, rfl⟩
abbrev main_call0_v158 : Ref sig .tc := ⟨.hbm, 246, rfl⟩
abbrev main_call0_c_41 : Ref sig .tc := ⟨.hbm, 247, rfl⟩
abbrev main_call0_v159 : Ref sig .tc := ⟨.hbm, 248, rfl⟩
abbrev main_call0_v160 : Ref sig .tc := ⟨.hbm, 249, rfl⟩
abbrev main_call0_v161 : Ref sig .tc := ⟨.hbm, 250, rfl⟩
abbrev main_call0_v162 : Ref sig .tc := ⟨.hbm, 251, rfl⟩
abbrev main_call0_v163 : Ref sig .tc := ⟨.hbm, 252, rfl⟩
abbrev main_call0_c_42 : Ref sig .tc := ⟨.hbm, 253, rfl⟩
abbrev main_call0_v164 : Ref sig .tc := ⟨.hbm, 254, rfl⟩
abbrev main_call0_v165 : Ref sig .tc := ⟨.hbm, 255, rfl⟩
abbrev main_call0_c_43 : Ref sig .tc := ⟨.hbm, 256, rfl⟩
abbrev main_call0_v166 : Ref sig .tc := ⟨.hbm, 257, rfl⟩
abbrev main_call0_v167 : Ref sig .tc := ⟨.hbm, 258, rfl⟩
abbrev main_call0_v168 : Ref sig .tc := ⟨.hbm, 259, rfl⟩
abbrev main_call0_v169 : Ref sig .tc := ⟨.hbm, 260, rfl⟩
abbrev main_call0_v170 : Ref sig .tc := ⟨.hbm, 261, rfl⟩
abbrev main_v35_0 : Ref sig .tc := ⟨.hbm, 262, rfl⟩
abbrev main_call0_v172 : Ref sig .tc := ⟨.hbm, 263, rfl⟩
abbrev main_call0_v173 : Ref sig .tc := ⟨.hbm, 264, rfl⟩
abbrev main_call0_c_44 : Ref sig .tc := ⟨.hbm, 265, rfl⟩
abbrev main_call0_v174 : Ref sig .tc := ⟨.hbm, 266, rfl⟩
abbrev main_v35_1 : Ref sig .tc := ⟨.hbm, 267, rfl⟩
abbrev main_v36 : Ref sig .tc := ⟨.hbm, 268, rfl⟩
abbrev main_c_8 : Ref sig .tc := ⟨.hbm, 269, rfl⟩
abbrev main_v37 : Ref sig .tc := ⟨.hbm, 270, rfl⟩
abbrev main_v38 : Ref sig .tc := ⟨.hbm, 271, rfl⟩
abbrev main_c_9 : Ref sig .tc := ⟨.hbm, 272, rfl⟩
abbrev main_v39 : Ref sig .tc := ⟨.hbm, 273, rfl⟩
abbrev main_v40 : Ref sig .tc := ⟨.hbm, 274, rfl⟩
abbrev main_v41 : Ref sig .tc := ⟨.hbm, 275, rfl⟩
abbrev main_cst_10 : Ref sig .tc := ⟨.hbm, 276, rfl⟩
abbrev main_v42 : Ref sig .tc := ⟨.hbm, 277, rfl⟩
abbrev main_v43 : Ref sig .tc := ⟨.hbm, 278, rfl⟩
abbrev main_cst_11 : Ref sig .tc := ⟨.hbm, 279, rfl⟩
abbrev main_v44 : Ref sig .tc := ⟨.hbm, 280, rfl⟩
abbrev main_v45 : Ref sig .tc := ⟨.hbm, 281, rfl⟩
abbrev main_v46 : Ref sig .tc := ⟨.hbm, 282, rfl⟩
abbrev main_v47 : Ref sig .tc := ⟨.hbm, 283, rfl⟩
abbrev main_v48 : Ref sig .tc := ⟨.hbm, 284, rfl⟩
abbrev main_v49 : Ref sig .tc := ⟨.hbm, 285, rfl⟩
abbrev main_v50 : Ref sig .tc := ⟨.hbm, 286, rfl⟩
abbrev main_v51 : Ref sig .tc := ⟨.hbm, 287, rfl⟩
abbrev main_call1_v0 : Ref sig .tc := ⟨.hbm, 288, rfl⟩
abbrev main_call1_cst : Ref sig .tc := ⟨.hbm, 289, rfl⟩
abbrev main_call1_c : Ref sig .tc := ⟨.hbm, 290, rfl⟩
abbrev main_call1_v1_0 : Ref sig .tc := ⟨.hbm, 291, rfl⟩
abbrev main_v52 : Ref sig .tc := ⟨.hbm, 292, rfl⟩
abbrev main_v53 : Ref sig .tc := ⟨.hbm, 293, rfl⟩

abbrev nD : Nat := 1
abbrev τ : Topo := Topo.v7x

variable {F : FTy → Type} [FloatOps F]
-- ==== Proof.Body.lean ====
/- What one grid step of the sampling kernel does: from the contents of its input block and its three scratch arrays,
   the contents it leaves. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow

@[expose] public section

set_option maxRecDepth 16384

noncomputable section

namespace Cert.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The grid coordinate as the word the kernel computes with. -/
abbrev stepWord (i : grid0.Coords) : BitVec 32 := BitVec.ofNat 32 (i 0).val

/-- The first half of the generator's two words after twenty rounds, from the counters kept in the third scratch. -/
def leftWord (i : grid0.Coords) (b : Vec F S32x8192 .i32) : IVec S32x8192 32 :=
  k0_pay50
    (k0_pay40 (k0_pay27 (k0_pay14 i b) (k0_pay15 i b) k0_pay16) (k0_pay28 (k0_pay14 i b) (k0_pay15 i b) k0_pay16)
      (k0_pay29 (k0_pay14 i b) (k0_pay15 i b) k0_pay16) 17#32)
    (k0_pay41 (k0_pay27 (k0_pay14 i b) (k0_pay15 i b) k0_pay16) (k0_pay28 (k0_pay14 i b) (k0_pay15 i b) k0_pay16)
      (k0_pay29 (k0_pay14 i b) (k0_pay15 i b) k0_pay16) 17#32) 24#32

/-- The second half, short of its last added constant. -/
def rightWord (i : grid0.Coords) (b : Vec F S32x8192 .i32) : IVec S32x8192 32 :=
  k0_pay51
    (k0_pay40 (k0_pay27 (k0_pay14 i b) (k0_pay15 i b) k0_pay16) (k0_pay28 (k0_pay14 i b) (k0_pay15 i b) k0_pay16)
      (k0_pay29 (k0_pay14 i b) (k0_pay15 i b) k0_pay16) 17#32)
    (k0_pay41 (k0_pay27 (k0_pay14 i b) (k0_pay15 i b) k0_pay16) (k0_pay28 (k0_pay14 i b) (k0_pay15 i b) k0_pay16)
      (k0_pay29 (k0_pay14 i b) (k0_pay15 i b) k0_pay16) 17#32) 24#32

/-- The block's perturbed logits, minus infinity past the vocabulary's end. -/
def perturbed (i : grid0.Coords) (x : Vec F S32x8192 .f32) (b : Vec F S32x8192 .i32) : FVec F S32x8192 .f32 :=
  k0_pay53 (stepWord i) (leftWord i b) (rightWord i b) k0_pay52 x

/-- The running maximum of each lane after the step, from the one before. -/
def bestNext (i : grid0.Coords) (x a : Vec F S32x8192 .f32) (b : Vec F S32x8192 .i32) : Vec F S32x8192 .f32 :=
  k0_pay55 (stepWord i) (leftWord i b) (rightWord i b) k0_pay52 x a a

/-- The step at which each lane reached its maximum, after the step. -/
def stepNext (i : grid0.Coords) (x a : Vec F S32x8192 .f32) (s b : Vec F S32x8192 .i32) : Vec F S32x8192 .i32 :=
  k0_pay1 (k0_pay56 (stepWord i) (leftWord i b) (rightWord i b) k0_pay52 x a s)

/-- The condition of the first step, which fills the scratch arrays. -/
abbrev atFirst (i : grid0.Coords) : Prop := (Scalar.cmpi .ne (Scalar.extui (Scalar.cmpi .eq (stepWord i) 0#32)) 0#32) = 1#1

/-- The condition of the last step, which writes the tokens. -/
abbrev atLast (i : grid0.Coords) : Prop := k0_cond2 i = 1#1

/-- The three scratch arrays as a step works on them: freshly filled at the first step, as they were at any other. -/
def best₀ (i : grid0.Coords) (a : Vec F S32x8192 .f32) : Vec F S32x8192 .f32 := if atFirst i then k0_pay3 else a
def step₀ (i : grid0.Coords) (s : Vec F S32x8192 .i32) : Vec F S32x8192 .i32 := if atFirst i then k0_pay4 else s
def count₀ (i : grid0.Coords) (b : Vec F S32x8192 .i32) : Vec F S32x8192 .i32 := if atFirst i then k0_pay5 else b

/-- The output block after the step: the tokens at the last step, untouched before. -/
def tokens (i : grid0.Coords) (a : Vec F S32x8192 .f32) (s : Vec F S32x8192 .i32) (y : Vec F S32x1 .i32) : Vec F S32x1 .i32 :=
  if atLast i then k0_pay2 a s else y

/-- The first part of the body: at the first step it fills the three scratch arrays, and it reads the counters. -/
theorem fill_run (c : Dev nD) (i : grid0.Coords)
    (arg1 : Memref sig .tc .vmem S32x8192 .f32) (harg1 : arg1.IsWhole) (arg2 : Memref sig .tc .vmem S32x1 .i32) (harg2 : arg2.IsWhole)
    (arg3 : Memref sig .tc .vmem S32x8192 .f32) (harg3 : arg3.IsWhole) (arg4 : Memref sig .tc .vmem S32x8192 .i32) (harg4 : arg4.IsWhole)
    (arg5 : Memref sig .tc .vmem S32x8192 .i32) (harg5 : arg5.IsWhole)
    (a : Vec F S32x8192 .f32) (s b : Vec F S32x8192 .i32) (E : Set ℕ)
    (K : (Σ' (_ : BitVec 32) (_ : IVec S32x8192 32) (_ : IVec S32x8192 32), IVec S32x8192 32) → sProp 𝕄) :
    iprop(owns (c : Thread nD τ) arg3 fullShare a ∗ owns (c : Thread nD τ) arg4 fullShare s ∗ owns (c : Thread nD τ) arg5 fullShare b
        ∗ (iprop(owns (c : Thread nD τ) arg3 fullShare (best₀ i a) ∗ owns (c : Thread nD τ) arg4 fullShare (step₀ i s)
            ∗ owns (c : Thread nD τ) arg5 fullShare (count₀ i b))
          -∗ K ⟨stepWord i, k0_pay14 i (count₀ i b), k0_pay15 i (count₀ i b), k0_pay16⟩))
      ⊢ wp frame (wpE (defs₀ (F := F)) Variants.none c none) E (k0_part1 i arg1 harg1 arg2 harg2 arg3 harg3 arg4 harg4 arg5 harg5) K := by
  simp only [k0_part1_eq_skeleton]; unfold k0_part1_skel
  unfold owns
  by_cases hc0 : atFirst i
  · have q0 : best₀ i a = k0_pay3 := if_pos hc0
    have q1 : step₀ i s = k0_pay4 := if_pos hc0
    have q2 : count₀ i b = k0_pay5 := if_pos hc0
    rw [q0, q1, q2]
    iintro ⟨⟨%f0, -, H0⟩, ⟨%f1, -, H1⟩, ⟨%f2, -, H2⟩, Hk⟩
    sl_exec (disch := sl_exact hc0)
    sl_step
    have e : fill_run.sl.v3 (F := F) c arg5 = k0_pay5 := View.readCov_full _ _ _ _ _
    rw [e]
    iapply Hk
    isplitl [H0]
    · iexists _; isplitr
      swap
      · iexact H0
      ipureintro; exact View.read_writes_full _ _ _ _ _
    isplitl [H1]
    · iexists _; isplitr
      swap
      · iexact H1
      ipureintro; exact View.read_writes_full _ _ _ _ _
    iexists _; isplitr
    swap
    · iexact H2
    ipureintro; exact View.read_writes_full _ _ _ _ _
  · have q0 : best₀ i a = a := if_neg hc0
    have q1 : step₀ i s = s := if_neg hc0
    have q2 : count₀ i b = b := if_neg hc0
    rw [q0, q1, q2]
    iintro ⟨⟨%f0, %hf0, H0⟩, ⟨%f1, %hf1, H1⟩, ⟨%f2, %hf2, H2⟩, Hk⟩
    sl_exec (disch := sl_exact hc0)
    sl_step
    have e : View.readAt (Elt F) arg5.view (Rect.unit ![0, 0] ![32, 8192] inb_S32x8192_S32x8192_0_0).toLoadRect f2 = b :=
      (View.readAt_full _ _ _).trans hf2
    rw [e]
    iapply Hk
    isplitl [H0]
    · iexists _; isplitr
      swap
      · iexact H0
      ipureintro; exact hf0
    isplitl [H1]
    · iexists _; isplitr
      swap
      · iexact H1
      ipureintro; exact hf1
    iexists _; isplitr
    swap
    · iexact H2
    ipureintro; exact hf2

/-- The fifth part of the body: it folds the block into the running maximum and computes the lanes' new steps. -/
theorem fold_run (c : Dev nD) (i : grid0.Coords)
    (arg1 : Memref sig .tc .vmem S32x8192 .f32) (harg1 : arg1.IsWhole) (arg2 : Memref sig .tc .vmem S32x1 .i32) (harg2 : arg2.IsWhole)
    (arg3 : Memref sig .tc .vmem S32x8192 .f32) (harg3 : arg3.IsWhole) (arg4 : Memref sig .tc .vmem S32x8192 .i32) (harg4 : arg4.IsWhole)
    (arg5 : Memref sig .tc .vmem S32x8192 .i32) (harg5 : arg5.IsWhole)
    (w : BitVec 32) (v₁ v₂ v₃ : IVec S32x8192 32) (x a : Vec F S32x8192 .f32) (s : Vec F S32x8192 .i32) (E : Set ℕ)
    (K : IVec S32x8192 32 → sProp 𝕄) :
    iprop(owns (c : Thread nD τ) arg1 fullShare x ∗ owns (c : Thread nD τ) arg3 fullShare a ∗ owns (c : Thread nD τ) arg4 fullShare s
        ∗ (iprop(owns (c : Thread nD τ) arg1 fullShare x ∗ owns (c : Thread nD τ) arg3 fullShare (k0_pay55 w v₁ v₂ v₃ x a a)
            ∗ owns (c : Thread nD τ) arg4 fullShare s)
          -∗ K (k0_pay56 w v₁ v₂ v₃ x a s)))
      ⊢ wp frame (wpE (defs₀ (F := F)) Variants.none c none) E (k0_part5 i arg1 harg1 arg2 harg2 arg3 harg3 arg4 harg4 arg5 harg5 w v₁ v₂ v₃) K := by
  simp only [k0_part5_eq_skeleton]; unfold k0_part5_skel
  unfold owns
  iintro ⟨⟨%f0, %hf0, H0⟩, ⟨%f1, %hf1, H1⟩, ⟨%f2, %hf2, H2⟩, Hk⟩
  sl_exec
  sl_step
  have e0 : View.readAt (Elt F) arg1.view (Rect.unit ![0, 0] S32x8192.size inb_S32x8192_S32x8192_0_0).toLoadRect f0 = x :=
    (View.readAt_full _ _ _).trans hf0
  have e1 : View.readAt (Elt F) arg3.view (Rect.unit ![0, 0] S32x8192.size inb_S32x8192_S32x8192_0_0).toLoadRect f1 = a :=
    (View.readAt_full _ _ _).trans hf1
  have e2 : View.readAt (Elt F) arg4.view (Rect.unit ![0, 0] S32x8192.size inb_S32x8192_S32x8192_0_0).toLoadRect f2 = s :=
    (View.readAt_full _ _ _).trans hf2
  rw [e0, e1, e2]
  iapply Hk
  isplitl [H0]
  · iexists _; isplitr
    swap
    · iexact H0
    ipureintro; exact hf0
  isplitl [H1]
  · iexists _; isplitr
    swap
    · iexact H1
    ipureintro; exact View.read_writes_full _ _ _ _ _
  iexists _; isplitr
  swap
  · iexact H2
  ipureintro; exact hf2

/-- One run of the kernel body on whole buffers: the input block is left as it was, the scratch arrays and the output
    block at the step's results. -/
theorem body_run (c : Dev nD) (i : grid0.Coords)
    (arg1 : Memref sig .tc .vmem S32x8192 .f32) (harg1 : arg1.IsWhole) (arg2 : Memref sig .tc .vmem S32x1 .i32) (harg2 : arg2.IsWhole)
    (arg3 : Memref sig .tc .vmem S32x8192 .f32) (harg3 : arg3.IsWhole) (arg4 : Memref sig .tc .vmem S32x8192 .i32) (harg4 : arg4.IsWhole)
    (arg5 : Memref sig .tc .vmem S32x8192 .i32) (harg5 : arg5.IsWhole)
    (x a : Vec F S32x8192 .f32) (s b : Vec F S32x8192 .i32) (y : Vec F S32x1 .i32) (E : Set ℕ) (K : PUnit → sProp 𝕄) :
    iprop(owns (c : Thread nD τ) arg1 fullShare x ∗ owns (c : Thread nD τ) arg2 fullShare y ∗ owns (c : Thread nD τ) arg3 fullShare a
        ∗ owns (c : Thread nD τ) arg4 fullShare s ∗ owns (c : Thread nD τ) arg5 fullShare b
        ∗ (iprop(owns (c : Thread nD τ) arg1 fullShare x
            ∗ owns (c : Thread nD τ) arg2 fullShare (tokens i (bestNext i x (best₀ i a) (count₀ i b)) (stepNext i x (best₀ i a) (step₀ i s) (count₀ i b)) y)
            ∗ owns (c : Thread nD τ) arg3 fullShare (bestNext i x (best₀ i a) (count₀ i b))
            ∗ owns (c : Thread nD τ) arg4 fullShare (stepNext i x (best₀ i a) (step₀ i s) (count₀ i b))
            ∗ owns (c : Thread nD τ) arg5 fullShare (count₀ i b)) -∗ K ⟨⟩))
      ⊢ wp frame (wpE (defs₀ (F := F)) Variants.none c none) E (cc0__sample_kernel i arg1 harg1 arg2 harg2 arg3 harg3 arg4 harg4 arg5 harg5) K := by
  simp only [cc0__sample_kernel_eq_skeleton]; unfold cc0__sample_kernel_skel
  rw [wp_bind]
  iintro ⟨H0, H1, H2, H3, H4, Hk⟩
  iapply (fill_run c i arg1 harg1 arg2 harg2 arg3 harg3 arg4 harg4 arg5 harg5 a s b E _)
  isplitl [H2]; · iexact H2
  isplitl [H3]; · iexact H3
  isplitl [H4]; · iexact H4
  iintro ⟨H2, H3, H4⟩
  simp only [k0_part2_eq_skeleton, k0_part3_eq_skeleton, k0_part4_eq_skeleton, k0_part2_skel, k0_part3_skel, k0_part4_skel, pure_bind]
  rw [wp_bind]
  iapply (fold_run c i arg1 harg1 arg2 harg2 arg3 harg3 arg4 harg4 arg5 harg5 _ _ _ _ x (best₀ i a) (step₀ i s) E _)
  isplitl [H0]; · iexact H0
  isplitl [H2]; · iexact H2
  isplitl [H3]; · iexact H3
  iintro ⟨H0, H2, H3⟩
  simp only [stepNext, bestNext, leftWord, rightWord]
  generalize k0_pay55 (F := F) _ _ _ _ _ _ _ = u
  generalize k0_pay56 (F := F) _ _ _ _ _ _ _ = v
  by_cases hc1 : atLast i
  · have q (a : Vec F S32x8192 .f32) (s : Vec F S32x8192 .i32) : tokens i a s y = k0_pay2 a s := if_pos hc1
    rw [q]
    unfold owns
    icases H0 with ⟨%f0, %hf0, H0⟩
    icases H1 with ⟨%f1, -, H1⟩
    icases H2 with ⟨%f2, %hf2, H2⟩
    icases H3 with ⟨%f3, -, H3⟩
    icases H4 with ⟨%f4, %hf4, H4⟩
    sl_exec (disch := sl_exact hc1)
    sl_step
    iapply Hk
    isplitl [H0]
    · iexists _; isplitr
      swap
      · iexact H0
      ipureintro; exact hf0
    isplitl [H1]
    · iexists _; isplitr
      swap
      · iexact H1
      ipureintro
      exact (View.read_writes_full _ _ _ _ _).trans
        (congrArg₂ k0_pay2 ((View.readAt_full _ _ _).trans hf2) (View.readCov_full _ _ _ _ _))
    isplitl [H2]
    · iexists _; isplitr
      swap
      · iexact H2
      ipureintro; exact hf2
    isplitl [H3]
    · iexists _; isplitr
      swap
      · iexact H3
      ipureintro; exact View.read_writes_full _ _ _ _ _
    iexists _; isplitr
    swap
    · iexact H4
    ipureintro; exact hf4
  · have q (a : Vec F S32x8192 .f32) (s : Vec F S32x8192 .i32) : tokens i a s y = y := if_neg hc1
    rw [q]
    unfold owns
    icases H3 with ⟨%f3, -, H3⟩
    sl_exec (disch := sl_exact hc1)
    sl_step
    iapply Hk
    isplitl [H0]; · iexact H0
    isplitl [H1]; · iexact H1
    isplitl [H2]; · iexact H2
    isplitl [H3]
    · iexists _; isplitr
      swap
      · iexact H3
      ipureintro; exact View.read_writes_full _ _ _ _ _
    iexact H4

end Cert.Sampler

end
-- ==== Proof.Lanes.lean ====
/- The kernel's block operations at one lane: the noise a generator word makes, the perturbed logit, and which lanes of a
   block lie inside the vocabulary. -/
module

public import proofs.«01_k».proof.Proof.Body
public import Idealize.ShloMosaic.Lib.Pipeline.Value

@[expose] public section

set_option maxRecDepth 16384

noncomputable section

namespace Cert.Sampler

open Cert.KernelIdeal Cert.KernelIdeal.Gen
open Idealize.ShloMosaic Idealize.ShloMosaic.TcCoe Idealize.ShloMosaic.Tactic

variable {F : FTy → Type} [FloatOps F]

/-- The Gumbel noise made of one generator word: its upper 23 bits as a uniform number in [0, 1), kept above the
    smallest normal number, twice through the negated logarithm. -/
def noise (w : BitVec 32) : F .f32 :=
  let u : F .f32 := FloatOps.maximumf
    (FloatOps.subf (FloatOps.ofBits .f32 ((w >>> 9) ||| 1065353216#32)) (FloatOps.ofBits .f32 0x3F800000#32))
    (FloatOps.ofBits .f32 0x00800000#32)
  FloatOps.subf (FloatOps.ofBits .f32 0x00000000#32)
    (FloatOps.log (FloatOps.subf (FloatOps.ofBits .f32 0x00000000#32) (FloatOps.log u)))

/-- The generator's word for a lane of the block at `i`. -/
def laneWord (i : grid0.Coords) (b : Vec F S32x8192 .i32) (p : S32x8192.Idx) : BitVec 32 :=
  leftWord i b p ^^^ (rightWord i b p + 5#32)

/-- The word comparison with which the kernel masks the last block says whether the lane's column is in the vocabulary. -/
theorem mask_iff (i : grid0.Coords) (p : S32x8192.Idx) :
    Scalar.cmpi .slt (BitVec.ofNat 32 (p 1).val) (Scalar.subi 1000000#32 (Scalar.muli (stepWord i) 8192#32)) = 1#1
      ↔ (i 0).val * 8192 + (p 1).val < 1000000 := by
  have h0 : (i 0).val < 123 := (i 0).isLt
  have h1 : (p 1).val < 8192 := (p 1).isLt
  have e : Scalar.cmpi .slt (BitVec.ofNat 32 (p 1).val) (Scalar.subi 1000000#32 (Scalar.muli (stepWord i) 8192#32))
      = BitVec.ofBool ((BitVec.ofNat 32 (p 1).val).slt (1000000#32 - stepWord i * 8192#32)) := rfl
  rw [e, stepWord]
  generalize (i 0).val = n at *
  generalize (p 1).val = k at *
  have hn : (BitVec.ofNat 32 n * 8192#32) = BitVec.ofNat 32 (n * 8192) := by
    apply BitVec.eq_of_toNat_eq; simp
  have hs : (1000000#32 - BitVec.ofNat 32 n * 8192#32) = BitVec.ofNat 32 (1000000 - n * 8192) := by
    rw [hn]; apply BitVec.eq_of_toNat_eq; simp only [BitVec.toNat_sub, BitVec.toNat_ofNat]; omega
  rw [hs]
  have ht (k : ℕ) (hk : k < 2000000) : (BitVec.ofNat 32 k).toInt = (k : ℤ) := by
    have e : (BitVec.ofNat 32 k).toNat = k := by rw [BitVec.toNat_ofNat]; exact Nat.mod_eq_of_lt (by omega)
    rw [BitVec.toInt_eq_toNat_of_lt (by rw [e]; omega), e]
  have h2 : (BitVec.ofNat 32 k).slt (BitVec.ofNat 32 (1000000 - n * 8192)) = decide ((k : ℤ) < ((1000000 - n * 8192 : ℕ) : ℤ)) := by
    rw [BitVec.slt, ht k (by omega), ht _ (by omega)]
  have hb : ∀ q : Bool, BitVec.ofBool q = 1#1 ↔ q = true := by decide
  rw [hb, h2, decide_eq_true_iff]
  omega

/-- The masked block of the kernel at a lane, from any pair of generator words. -/
theorem masked_apply (w : BitVec 32) (l r : IVec S32x8192 32) (x : Vec F S32x8192 .f32) (p : S32x8192.Idx) :
    k0_pay53 w l r k0_pay52 x p = Scalar.select
      (Scalar.cmpi .slt (BitVec.ofNat 32 (p 1).val) (Scalar.subi 1000000#32 (Scalar.muli w 8192#32)))
      (FloatOps.addf (x p) (noise (l p ^^^ (r p + 5#32)))) (FloatOps.ofBits .f32 0xFF800000#32) := by
  have e : iota .tc S32x8192 32 [1] iota_S32x8192_d1_w32 p = BitVec.ofNat 32 (p 1).val := iota_single_apply _ _ _ _ _ _
  rw [← e]
  rfl

theorem perturbed_apply (i : grid0.Coords) (x : Vec F S32x8192 .f32) (b : Vec F S32x8192 .i32) (p : S32x8192.Idx) :
    perturbed i x b p = if (i 0).val * 8192 + (p 1).val < 1000000 then FloatOps.addf (x p) (noise (laneWord i b p))
      else FloatOps.ofBits .f32 0xFF800000#32 := by
  unfold perturbed laneWord
  rw [masked_apply]; unfold Scalar.select
  exact if_congr (mask_iff i p) rfl rfl

theorem bestNext_apply (i : grid0.Coords) (x a : Vec F S32x8192 .f32) (b : Vec F S32x8192 .i32) (p : S32x8192.Idx) :
    bestNext i x a b p = Scalar.select (FloatOps.cmpf .ogt (perturbed i x b p) (a p)) (perturbed i x b p) (a p) := by
  unfold bestNext perturbed k0_pay55
  rw [shapeCast_self]
  rfl

theorem stepNext_apply (i : grid0.Coords) (x a : Vec F S32x8192 .f32) (s b : Vec F S32x8192 .i32) (p : S32x8192.Idx) :
    stepNext i x a s b p = Scalar.select (FloatOps.cmpf .ogt (perturbed i x b p) (a p)) (stepWord i) (s p) := by
  unfold stepNext perturbed k0_pay1
  rw [shapeCast_self]
  rfl

/-- The lanes inside the vocabulary are the ones the block's transfer moves. -/
theorem moved_iff (i : grid0.Coords) (p : S32x8192.Idx) :
    win0_0.moved i p = true ↔ (i 0).val * 8192 + (p 1).val < 1000000 := by
  rw [Pipeline.Window.moved_iff]
  have h0 : (i 0).val < 123 := (i 0).isLt
  have h1 : (p 1).val < 8192 := (p 1).isLt
  have h2 : (p 0).val < 32 := (p 0).isLt
  have e0 : win0_0.xsize i 0 = 32 := by
    show (Pipeline.Clip.of (cc0_transform_0 i 0) 32 32).extent 32 = 32
    rfl
  have e1 : win0_0.xsize i 1 = min 8192 (1000000 - (i 0).val * 8192) := by
    show (Pipeline.Clip.of (BitVec.ofNat 32 (i 0).val).toNat 8192 1000000).extent 8192 = _
    rw [BitVec.toNat_ofNat, Nat.mod_eq_of_lt (by omega)]
    unfold Pipeline.Clip.of
    split
    · show 8192 = _
      omega
    · show 1000000 - _ = _
      omega
  constructor
  · intro h
    have := h 1
    rw [e1] at this
    omega
  · intro h a
    fin_cases a
    · show (p 0).val < win0_0.xsize i 0
      rw [e0]; exact h2
    · show (p 1).val < win0_0.xsize i 1
      rw [e1]; omega

/-- Two buffers holding the same block differ only past the vocabulary's end, where the perturbed logits do not read them. -/
theorem perturbed_fill (i : grid0.Coords) (d d' : Vec F S32x8192 .f32) (g : (win0_0.xblock i).Idx → Elt F .f32)
    (b : Vec F S32x8192 .i32) : perturbed i (win0_0.fill i d g) b = perturbed i (win0_0.fill i d' g) b := by
  funext p
  rw [perturbed_apply, perturbed_apply]
  by_cases h : (i 0).val * 8192 + (p 1).val < 1000000
  · rw [if_pos h, if_pos h]
    have hm := (moved_iff i p).mpr h
    unfold Pipeline.Window.fill
    rw [dif_pos hm, dif_pos hm]
  · rw [if_neg h, if_neg h]

theorem bestNext_fill (i : grid0.Coords) (d d' : Vec F S32x8192 .f32) (g : (win0_0.xblock i).Idx → Elt F .f32)
    (a : Vec F S32x8192 .f32) (b : Vec F S32x8192 .i32) :
    bestNext i (win0_0.fill i d g) a b = bestNext i (win0_0.fill i d' g) a b := by
  funext p; rw [bestNext_apply, bestNext_apply, perturbed_fill i d d']

theorem stepNext_fill (i : grid0.Coords) (d d' : Vec F S32x8192 .f32) (g : (win0_0.xblock i).Idx → Elt F .f32)
    (a : Vec F S32x8192 .f32) (s b : Vec F S32x8192 .i32) :
    stepNext i (win0_0.fill i d g) a s b = stepNext i (win0_0.fill i d' g) a s b := by
  funext p; rw [stepNext_apply, stepNext_apply, perturbed_fill i d d']

end Cert.Sampler

end
-- ==== Proof.Launch.lean ====
/- The launch of the sampling kernel: what the scratch arrays hold before every grid step as a function of the logits, the
   steps composed into the run, and the frame. -/
module

public import proofs.«01_k».proof.Proof.Lanes
public import Idealize.ShloMosaic.Lib.Claim

@[expose] public section

set_option maxRecDepth 16384

noncomputable section

namespace Cert.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first and the last step -/

theorem coord_val (t : Fin cfg0.N) : (grid0.coords t 0).val = t.val := by
  have ht : t.val < 123 := Nat.lt_of_lt_of_eq t.isLt N_0
  have e : (grid0.coords t 0).val = t.val / 1 % 123 := Pipeline.Grid.coords_val t 0 (by decide) rfl
  omega

theorem atFirst_iff (t : Fin cfg0.N) : atFirst (grid0.coords t) ↔ t.val = 0 := by
  have ht : t.val < 123 := Nat.lt_of_lt_of_eq t.isLt N_0
  simp only [atFirst, stepWord, coord_val]
  word_cmp

theorem atLast_iff (t : Fin cfg0.N) : atLast (grid0.coords t) ↔ t.val = 122 := by
  have ht : t.val < 123 := Nat.lt_of_lt_of_eq t.isLt N_0
  simp only [atLast, k0_cond2, coord_val]
  word_cmp

theorem live_in (t : Fin cfg0.N) : cfg0.idle 0 (grid0.coords t) = false := rfl

theorem idle_out (t : Fin cfg0.N) (h : ¬atLast (grid0.coords t)) : cfg0.idle 1 (grid0.coords t) = true := by
  show (!(k0_cond2 (grid0.coords t) == 1#1)) = true
  rw [Bool.not_eq_true', beq_eq_false_iff_ne]; exact h

theorem live_out (t : Fin cfg0.N) (h : atLast (grid0.coords t)) : cfg0.idle 1 (grid0.coords t) = false := by
  show (!(k0_cond2 (grid0.coords t) == 1#1)) = false
  rw [Bool.not_eq_false', beq_iff_eq]; exact h

theorem flush_out (t : Fin cfg0.N) : (cfg0.win 1).flush t = true ↔ t.val = 122 := by
  have ht : t.val < 123 := Nat.lt_of_lt_of_eq t.isLt N_0
  rw [flush0_1]; omega

/-! ## What the arrays hold -/

/-- The block of logits at step `t`, zero past the vocabulary's end. -/
def block (c : Dev nD) (t : Fin cfg0.N) : Vec F S32x8192 .f32 :=
  win0_0.fill (grid0.coords t) (fun _ => FloatOps.ofBits .f32 0#32) (iblk m c 0 t)

/-- Each lane's running maximum before step `n`. -/
def best (c : Dev nD) : (n : ℕ) → n ≤ cfg0.N → Vec F S32x8192 .f32
  | 0, _ => k0_pay3
  | n + 1, h => bestNext (grid0.coords ⟨n, h⟩) (block m c ⟨n, h⟩) (best c n (Nat.le_of_lt h)) k0_pay5

/-- The step at which each lane reached it, before step `n`. -/
def step (c : Dev nD) : (n : ℕ) → n ≤ cfg0.N → Vec F S32x8192 .i32
  | 0, _ => k0_pay4
  | n + 1, h => stepNext (grid0.coords ⟨n, h⟩) (block m c ⟨n, h⟩) (best m c n (Nat.le_of_lt h)) (step c n (Nat.le_of_lt h)) k0_pay5

/-- The tokens the last step writes. -/
def drawn (c : Dev nD) : Vec F S32x1 .i32 := k0_pay2 (best m c cfg0.N le_rfl) (step m c cfg0.N le_rfl)

theorem drawn_of (c : Dev nD) (n : ℕ) (h : n ≤ cfg0.N) (e : n = cfg0.N) : k0_pay2 (best m c n h) (step m c n h) = drawn m c := by
  subst e; rfl

/-! ## The proof data -/

abbrev scr0 : Memref sig .tc .vmem S32x8192 .f32 := Memref.whole cc0_scratch0
abbrev scr1 : Memref sig .tc .vmem S32x8192 .i32 := Memref.whole cc0_scratch1
abbrev scr2 : Memref sig .tc .vmem S32x8192 .i32 := Memref.whole cc0_scratch2

theorem ΦA_eq (c : Dev nD) : (Pipeline.ΦA spec0 c : sProp 𝕄) =
    iprop(iprop((∃ d, owns (c : Thread nD τ) scr0 fullShare d) ∗ (∃ d, owns (c : Thread nD τ) scr1 fullShare d)
      ∗ (∃ d, owns (c : Thread nD τ) scr2 fullShare d)) ∗ (∃ r, prngReg c r)) := by
  unfold Pipeline.ΦA; rw [scopedRest0_eq]; simp only [scr0, scr1, scr2, owns_whole]; try rfl

/-- The invariant before step `n`: the scratch arrays at anything before the first, at the tracked contents after it. -/
def Inv (c : Dev nD) : (n : ℕ) → n ≤ cfg0.N → sProp 𝕄
  | 0, _ => Pipeline.ΦA spec0 c
  | n + 1, h => iprop(iprop(owns (c : Thread nD τ) scr0 fullShare (best m c (n + 1) h) ∗ owns (c : Thread nD τ) scr1 fullShare (step m c (n + 1) h)
      ∗ owns (c : Thread nD τ) scr2 fullShare (k0_pay5 : Vec F S32x8192 .i32)) ∗ (∃ r, prngReg c r))

/-- Before any step the scratch arrays hold something from which the step works on the tracked contents. -/
theorem Inv_open (c : Dev nD) (t : Fin cfg0.N) :
    Inv m c t.val (Nat.le_of_lt t.isLt) ⊢ iprop(∃ a s b, ⌜best₀ (grid0.coords t) a = best m c t.val (Nat.le_of_lt t.isLt)
        ∧ step₀ (grid0.coords t) s = step m c t.val (Nat.le_of_lt t.isLt) ∧ count₀ (F := F) (grid0.coords t) b = k0_pay5⌝
      ∗ (iprop(owns (c : Thread nD τ) scr0 fullShare a ∗ owns (c : Thread nD τ) scr1 fullShare s
        ∗ owns (c : Thread nD τ) scr2 fullShare b) ∗ (∃ r, prngReg c r))) := by
  obtain ⟨n, hn⟩ := t
  cases n with
  | zero =>
    have h : atFirst (grid0.coords ⟨0, hn⟩) := (atFirst_iff _).mpr rfl
    show Pipeline.ΦA spec0 c ⊢ _
    rw [ΦA_eq]
    iintro ⟨⟨⟨%a, HS0⟩, ⟨%s, HS1⟩, ⟨%b, HS2⟩⟩, Hg⟩
    iexists a; iexists s; iexists b
    isplitr
    · ipureintro; exact ⟨if_pos h, if_pos h, if_pos h⟩
    isplitl [HS0 HS1 HS2]
    · isplitl [HS0]; · iexact HS0
      isplitl [HS1]; · iexact HS1
      iexact HS2
    iexact Hg
  | succ n =>
    have h : ¬atFirst (grid0.coords ⟨n + 1, hn⟩) := fun h => absurd ((atFirst_iff _).mp h) (Nat.succ_ne_zero n)
    show Inv m c (n + 1) (Nat.le_of_lt hn) ⊢ _
    unfold Inv
    iintro ⟨⟨HS0, HS1, HS2⟩, Hg⟩
    iexists _; iexists _; iexists _
    isplitr
    swap
    · isplitl [HS0 HS1 HS2]
      · isplitl [HS0]; · iexact HS0
        isplitl [HS1]; · iexact HS1
        iexact HS2
      iexact Hg
    ipureintro; exact ⟨if_neg h, if_neg h, if_neg h⟩

/-- The proof data of the one launch on core `c`. -/
def dats (_ : Fin 1) (c : Dev nD) : Dat τ (Elt F) Unit ℕ (UR sig nD τ) ℕ cfg0 c where
  A w := V m c (Pipeline.arrRef spec0 w)
  after w t := match w with
    | ⟨0, _⟩ => block m c t
    | ⟨1, _⟩ => drawn m c
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = block m c t := by dsimp only [dats]
theorem after_out (c : Dev nD) (t : Fin cfg0.N) : (dats m 0 c).after 1 t = drawn m c := by dsimp only [dats]

theorem Φ_castSucc (c : Dev nD) (t : Fin cfg0.N) :
    (dats m 0 c).Φ t.castSucc = Inv m c t.val (Nat.le_of_lt t.isLt) := by
  dsimp only [dats]; exact Pipeline.Dat.Φ_castSucc (Inv m c) t

/-- The input's staging buffer arrives holding the block, and anything past the array's end. -/
theorem before_in (c : Dev nD) (t : Fin cfg0.N) (d) :
    (dats m 0 c).before 0 t d = win0_0.fill (grid0.coords t) d (iblk m c 0 t) := by
  unfold Dat.before; rw [if_pos (fetch0_0 t)]; rfl

theorem defs₀_row (t : Fin cfg0.N) :
    defs₀ (F := F) .tc cfg0.body (cfg0.bodyArgs t (cfg0.slots t)) = bodyAt0 t := by
  unfold defs₀; rw [Defs.onTc_tc]

/-! ## The body at a step -/

set_option maxHeartbeats 1600000 in
theorem body_obligation (c : Dev nD) : BodyObligationLoose (dats (F := F) m 0 c) (defs₀ (F := F)) Variants.none () Set.univ := fun t => by
  rw [bigSep_W0, bigSep_W0, defs₀_row]
  simp only
  rw [show (dats m 0 c).owesAt () t.succ = (dats m 0 c).owesAt () t.castSucc from rfl, Φ_castSucc,
    show (dats m 0 c).Φ t.succ = Inv m c (t.val + 1) t.isLt from rfl]
  refine BIBase.Entails.trans (sep_mono_l (Inv_open m c t)) ?_
  change (iprop(_ ∗ _) : sProp 𝕄) ⊢ _
  iintro ⟨⟨%a, %s, %b, %e, ⟨HS0, HS1, HS2⟩, Hg⟩, Ho, ⟨%d0, H0⟩, ⟨%d1, H1⟩⟩
  obtain ⟨ea, es, eb⟩ := e
  rw [before_in m c t d0]
  unfold bodyAt0
  iapply (body_run c (grid0.coords t) _ _ _ _ _ _ _ _ _ _ (win0_0.fill (grid0.coords t) d0 (iblk m c 0 t)) a s b
    ((dats m 0 c).before 1 t d1) Set.univ _)
  isplitl [H0]; · iexact H0
  isplitl [H1]; · iexact H1
  isplitl [HS0]; · iexact HS0
  isplitl [HS1]; · iexact HS1
  isplitl [HS2]; · iexact HS2
  have eB : bestNext (grid0.coords t) (win0_0.fill (grid0.coords t) d0 (iblk m c 0 t)) (best₀ (grid0.coords t) a) (count₀ (grid0.coords t) b)
      = best m c (t.val + 1) t.isLt := by
    rw [ea, eb, bestNext_fill]; rfl
  have eS : stepNext (grid0.coords t) (win0_0.fill (grid0.coords t) d0 (iblk m c 0 t)) (best₀ (grid0.coords t) a) (step₀ (grid0.coords t) s)
      (count₀ (grid0.coords t) b) = step m c (t.val + 1) t.isLt := by
    rw [ea, es, eb, stepNext_fill]; rfl
  rw [eB, eS, eb]
  iintro ⟨H0, H1, HS0, HS1, HS2⟩
  isplitl [HS0 HS1 HS2 Hg]
  · unfold Inv
    isplitl [HS0 HS1 HS2]
    · isplitl [HS0]; · iexact HS0
      isplitl [HS1]; · iexact HS1
      iexact HS2
    iexact Hg
  isplitl [Ho]; · iexact Ho
  isplitl [H0]
  · iexists d0
    rw [after_in]
    have hx : win0_0.cut (grid0.coords t) (block m c t) = iblk m c 0 t := win0_0.cut_fill _ _ _
    change _ ⊢ owns (c : Thread nD τ) (stage0_0 (cfg0.slots t 0)) fullShare (win0_0.fill (grid0.coords t) d0 (win0_0.cut (grid0.coords t) (block m c t)))
    rw [hx]
  by_cases hl : atLast (grid0.coords t)
  · rw [show idle0 1 (grid0.coords t) = false from live_out t hl]
    have e : tokens (grid0.coords t) (best m c (t.val + 1) t.isLt) (step m c (t.val + 1) t.isLt) ((dats m 0 c).before 1 t d1) = drawn m c :=
      (if_pos hl).trans (drawn_of m c _ _ (by rw [(atLast_iff t).mp hl]; exact N_0.symm))
    rw [e, after_out]
    iexact H1
  · have hf : (win0 1).flush t = false := by
      rw [← Bool.not_eq_true]; exact fun h => hl ((atLast_iff t).mpr ((flush_out t).mp h))
    rw [show idle0 1 (grid0.coords t) = true from idle_out t hl, hf]
    have e : tokens (grid0.coords t) (best m c (t.val + 1) t.isLt) (step m c (t.val + 1) t.isLt) ((dats m 0 c).before 1 t d1)
        = (dats m 0 c).before 1 t d1 := if_neg hl
    rw [e]
    iexists d1; iexact H1

theorem hin (c : Dev nD) : Pipeline.ΦA spec0 c ⊢ (dats m 0 c).Φ 0 := Entails.refl _

theorem Inv_close (c : Dev nD) (n : ℕ) (h : n ≤ cfg0.N) : Inv m c n h ⊢ Pipeline.ΦA spec0 c := by
  cases n with
  | zero => exact Entails.refl _
  | succ n =>
    rw [ΦA_eq]; unfold Inv
    iintro ⟨⟨HS0, HS1, HS2⟩, Hg⟩
    isplitl [HS0 HS1 HS2]
    · isplitl [HS0]
      · iexists _; iexact HS0
      isplitl [HS1]
      · iexists _; iexact HS1
      iexists _; iexact HS2
    iexact Hg

theorem hout (c : Dev nD) : (dats m 0 c).Φ (Fin.last cfg0.N) ⊢ Pipeline.ΦA spec0 c :=
  Inv_close m c (Fin.last cfg0.N).val (Nat.le_of_lt_succ (Fin.last cfg0.N).isLt)

/-! ## The run -/

-- the launch theorem's implicit arguments are found by unifying its conclusion with the statement, through plain definitions
set_option backward.isDefEq.respectTransparency.types false in
/-- The kernel runs from any memory with zero counters; its arrays end at what the proof data says, the counters at zero. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The frame: the kernel runs, its argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Sampler

end
-- ==== Proof.KernelFrame.lean ====
/- The compiled kernel is the same program as the one the values are proved of, so its frame is that program's frame. -/
module

public import proofs.«01_k».proof.Defs
public import proofs.«01_k».proof.Proof.Gen.Kernel
public import proofs.«01_k».proof.Proof.Gen.ReferenceIdeal
public import proofs.«01_k».proof.Proof.Gen.Pre_no_plus_infinity
public import proofs.«01_k».proof.Proof.Launch

@[expose] public section

set_option maxRecDepth 100000

noncomputable section

namespace Cert.Sampler

open Idealize.ShloMosaic Idealize.ShloMosaic.TcCoe

/-- The two programs' kernel tables agree, label by label. -/
theorem kernels_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem defs_eq : @Cert.Kernel.defs Bits _ Cert.Kernel.Gen.facts = @Cert.KernelIdeal.defs Bits _ Cert.KernelIdeal.Gen.facts := by
  unfold Cert.Kernel.defs Cert.KernelIdeal.defs
  rw [kernels_eq]
  rfl

/-- The frame of the compiled kernel. -/
theorem frame_kernel : Cert.quiescent_Kernel (hKernel := Cert.Kernel.Gen.facts) := fun m g _ => by
  rw [defs_eq]
  exact frame (F := Bits) m g

/-- The frame of the kernel read over the extended reals, with the precondition or without it. -/
theorem frame_ideal : Cert.quiescent_KernelIdeal (hKernelIdeal := Cert.KernelIdeal.Gen.facts) := fun m g _ => frame m g

theorem frame_ideal_pre : Cert.quiescent_KernelIdeal_pre_no_plus_infinity (hKernelIdeal := Cert.KernelIdeal.Gen.facts)
    (hPre_no_plus_infinity := Cert.Pre_no_plus_infinity.Gen.facts) := fun m g _ => frame m g

end Cert.Sampler

end
-- ==== Proof.KernelResult.lean ====
/- The kernel's run leaves the tokens drawn in its result. -/
module

public import proofs.«01_k».proof.Proof.Launch

@[expose] public section

set_option maxRecDepth 16384

noncomputable section

namespace Cert.Sampler

open Cert.KernelIdeal Cert.KernelIdeal.Gen
open Idealize.ShloMosaic Idealize.ShloMosaic.TcCoe Idealize.ShloMosaic.Pipeline Idealize.SL.Sem

variable {F : FTy → Type} [FloatOps F]
variable (m : (ℓ : Loc nD τ sig) → Buf (Elt F) ℓ)

/-- The kernel's run leaves the tokens in its result. -/
theorem result (ρ : Dev nD → PrngReg) : θ_run defs (onTc (τ := τ) (main (F := F))) ⟨m, fun _ => 0, ρ⟩ (fun r => ∀ c : Dev nD,
    r.2.mem ((c.tc : Thread nD τ).loc main_v0) = drawn (F := F) m c
      ∧ r.2.mem ((c.tc : Thread nD τ).loc main_arg0) = m ((c.tc : Thread nD τ).loc main_arg0)) := by
  refine (θ_run defs _ _).mono (fun r h c => ⟨?_, ?_⟩) (run m ρ)
  · refine ((h.1 c).1 1).trans ?_
    have hN : 122 < cfg0.N := Nat.lt_of_lt_of_eq (by decide) N_0.symm
    have hfl : (cfg0.win 1).flush ⟨122, hN⟩ = true := (flush_out _).mpr rfl
    refine (dats m 0 c).arrAt_eq_of_cover 1 (drawn m c) (fun t _ => ?_) fun i => ⟨⟨122, hN⟩, hfl, ?_⟩
    · unfold Dat.flushed
      rw [after_out]
      generalize drawn m c = G
      funext y
      show G _ = G ((win0_1.rect t).emb y)
      refine congrArg G (Shape.idx_ext₂ ?_ ?_)
      · refine Eq.symm ((win0_1.rect_emb_val t y 0).trans ?_)
        show 0 * 32 + (y 0).val = (y 0).val
        omega
      · refine Eq.symm ((win0_1.rect_emb_val t y 1).trans ?_)
        show 0 * 1 + (y 1).val = (y 1).val
        omega
    · show i ∈ ((View.whole main_v0).slice (win0_1.rect ⟨122, hN⟩)).set
      rw [View.set_slice_whole, Rect.mem_set_unit]
      intro a
      match a with
      | ⟨0, _⟩ =>
        have h0 : (i 0).val < 32 := (i 0).isLt
        show 0 * 32 ≤ (i 0).val ∧ (i 0).val < 0 * 32 + 32
        omega
      | ⟨1, _⟩ =>
        have h1 : (i 1).val < 1 := (i 1).isLt
        show 0 * 1 ≤ (i 1).val ∧ (i 1).val < 0 * 1 + 1
        omega
  · exact ((h.1 c).1 0).trans ((dats m 0 c).arrAt_in 0 rfl _)

end Cert.Sampler

end
-- ==== Proof.RefOps.lean ====
/- The reference as a list of operations: the softmax, the generator's key and counters, its twenty rounds, the noise
   made of its words, and the position of the row's greatest entry. -/
module

public import proofs.«01_k».proof.Proof.Gen.ReferenceIdeal
public import Idealize.ShloMosaic.Lib.StableHlo.Run
public import Idealize.ShloMosaic.Lib.Quiescent

@[expose] public section

set_option maxRecDepth 100000

noncomputable section

namespace Cert.Sampler.Reference

open Cert.ReferenceIdeal
open Idealize.ShloMosaic Idealize.ShloMosaic.TcCoe Idealize.ShloMosaic.StableHlo Idealize.SL.Sem
open Cert.ReferenceIdeal.Facts₀

attribute [local instance] Cert.ReferenceIdeal.Gen.facts

variable {F : FTy → Type} [FloatOps F]

/-! The types of the reference's values: floats, words and long words, by shape. -/

abbrev fW : BufTy := ⟨S32x1000000, .f32⟩
abbrev iW : BufTy := ⟨S32x1000000, .i32⟩
abbrev lW : BufTy := ⟨S32x1000000, .i64⟩
abbrev f0 : BufTy := ⟨S_, .f32⟩
abbrev i0 : BufTy := ⟨S_, .i32⟩
abbrev l0 : BufTy := ⟨S_, .i64⟩
abbrev i1 : BufTy := ⟨S1, .i32⟩
abbrev i2 : BufTy := ⟨S2, .i32⟩
abbrev fR : BufTy := ⟨S32, .f32⟩
abbrev iR : BufTy := ⟨S32, .i32⟩
abbrev fC : BufTy := ⟨S32x1, .f32⟩
abbrev iC : BufTy := ⟨S32x1, .i32⟩

/-- The buffers of one round of the generator: the sum of the two words, the two shift amounts and their copies at every
    entry, the two shifted words, the rotated word, and the new second word. -/
structure Round where
  s : TRef sig iW
  cl : TRef sig i0
  bl : TRef sig iW
  l : TRef sig iW
  cr : TRef sig i0
  br : TRef sig iW
  r : TRef sig iW
  o : TRef sig iW
  y : TRef sig iW

/-- One round on the words in `x0` and `x1`, which rotates the second word by `a` bits to the left, `b = 32 - a`. -/
def roundOps (a b : BitVec 32) (x0 x1 : TRef sig iW) (R : Round) : List (HloOp τ sig (Elt F)) :=
  [ TRef.binary x0 x1 R.s addi,
    TRef.nullary R.cl (constantI S_ 32 a),
    TRef.unary R.cl R.bl (broadcastInDim S32x1000000 ![] bcast_S_S32x1000000),
    TRef.binary x1 R.bl R.l Host.shli,
    TRef.nullary R.cr (constantI S_ 32 b),
    TRef.unary R.cr R.br (broadcastInDim S32x1000000 ![] bcast_S_S32x1000000),
    TRef.binary x1 R.br R.r Host.shrui,
    TRef.binary R.l R.r R.o ori,
    TRef.binary R.s R.o R.y xori ]

/-- The buffers of one key step. -/
structure KeyStep where
  b0 : TRef sig iW
  y0 : TRef sig iW
  b1 : TRef sig iW
  t : TRef sig iW
  c : TRef sig i0
  b2 : TRef sig iW
  y1 : TRef sig iW

/-- The key step: one key word is added to the first word, another and the step's number `n` to the second. -/
def keyOps (n : BitVec 32) (k0 k1 : TRef sig i0) (x0 x1 : TRef sig iW) (K : KeyStep) : List (HloOp τ sig (Elt F)) :=
  [ TRef.unary k0 K.b0 (broadcastInDim S32x1000000 ![] bcast_S_S32x1000000),
    TRef.binary x0 K.b0 K.y0 addi,
    TRef.unary k1 K.b1 (broadcastInDim S32x1000000 ![] bcast_S_S32x1000000),
    TRef.binary x1 K.b1 K.t addi,
    TRef.nullary K.c (constantI S_ 32 n),
    TRef.unary K.c K.b2 (broadcastInDim S32x1000000 ![] bcast_S_S32x1000000),
    TRef.binary K.t K.b2 K.y1 addi ]

/-- The buffers of four rounds and the key step after them. -/
structure Group where
  r0 : Round
  r1 : Round
  r2 : Round
  r3 : Round
  k : KeyStep

/-- Four rounds with the rotations `a`, whose complements to 32 are `b`, and the key step after them. -/
def groupOps (a b : Fin 4 → BitVec 32) (n : BitVec 32) (k0 k1 : TRef sig i0) (x0 x1 : TRef sig iW) (G : Group) :
    List (HloOp τ sig (Elt F)) :=
  roundOps (a 0) (b 0) x0 x1 G.r0 ++ (roundOps (a 1) (b 1) G.r0.s G.r0.y G.r1 ++ (roundOps (a 2) (b 2) G.r1.s G.r1.y G.r2
    ++ (roundOps (a 3) (b 3) G.r2.s G.r2.y G.r3 ++ keyOps n k0 k1 G.r3.s G.r3.y G.k)))

/-- The rotations of the odd groups, and of the even ones, with their complements. -/
abbrev rotA : Fin 4 → BitVec 32 := ![13#32, 15#32, 26#32, 6#32]
abbrev rotA' : Fin 4 → BitVec 32 := ![19#32, 17#32, 6#32, 26#32]
abbrev rotB : Fin 4 → BitVec 32 := ![17#32, 29#32, 16#32, 24#32]
abbrev rotB' : Fin 4 → BitVec 32 := ![15#32, 3#32, 16#32, 8#32]

/-- The buffers of rounds 1 to 4 and of the key step after them. -/
abbrev group1 (φ : fn_threefry2x32.Bufs) : Group where
  r0 := ⟨φ.v6, φ.c_0, φ.v7, φ.v8, φ.c_1, φ.v9, φ.v10, φ.v11, φ.v12⟩
  r1 := ⟨φ.v13, φ.c_2, φ.v14, φ.v15, φ.c_3, φ.v16, φ.v17, φ.v18, φ.v19⟩
  r2 := ⟨φ.v20, φ.c_4, φ.v21, φ.v22, φ.c_5, φ.v23, φ.v24, φ.v25, φ.v26⟩
  r3 := ⟨φ.v27, φ.c_6, φ.v28, φ.v29, φ.c_7, φ.v30, φ.v31, φ.v32, φ.v33⟩
  k := ⟨φ.v34, φ.v35, φ.v36, φ.v37, φ.c_8, φ.v38, φ.v39⟩

/-- The buffers of rounds 5 to 8 and of the key step after them. -/
abbrev group2 (φ : fn_threefry2x32.Bufs) : Group where
  r0 := ⟨φ.v40, φ.c_9, φ.v41, φ.v42, φ.c_10, φ.v43, φ.v44, φ.v45, φ.v46⟩
  r1 := ⟨φ.v47, φ.c_11, φ.v48, φ.v49, φ.c_12, φ.v50, φ.v51, φ.v52, φ.v53⟩
  r2 := ⟨φ.v54, φ.c_13, φ.v55, φ.v56, φ.c_14, φ.v57, φ.v58, φ.v59, φ.v60⟩
  r3 := ⟨φ.v61, φ.c_15, φ.v62, φ.v63, φ.c_16, φ.v64, φ.v65, φ.v66, φ.v67⟩
  k := ⟨φ.v68, φ.v69, φ.v70, φ.v71, φ.c_17, φ.v72, φ.v73⟩

/-- The buffers of rounds 9 to 12 and of the key step after them. -/
abbrev group3 (φ : fn_threefry2x32.Bufs) : Group where
  r0 := ⟨φ.v74, φ.c_18, φ.v75, φ.v76, φ.c_19, φ.v77, φ.v78, φ.v79, φ.v80⟩
  r1 := ⟨φ.v81, φ.c_20, φ.v82, φ.v83, φ.c_21, φ.v84, φ.v85, φ.v86, φ.v87⟩
  r2 := ⟨φ.v88, φ.c_22, φ.v89, φ.v90, φ.c_23, φ.v91, φ.v92, φ.v93, φ.v94⟩
  r3 := ⟨φ.v95, φ.c_24, φ.v96, φ.v97, φ.c_25, φ.v98, φ.v99, φ.v100, φ.v101⟩
  k := ⟨φ.v102, φ.v103, φ.v104, φ.v105, φ.c_26, φ.v106, φ.v107⟩

/-- The buffers of rounds 13 to 16 and of the key step after them. -/
abbrev group4 (φ : fn_threefry2x32.Bufs) : Group where
  r0 := ⟨φ.v108, φ.c_27, φ.v109, φ.v110, φ.c_28, φ.v111, φ.v112, φ.v113, φ.v114⟩
  r1 := ⟨φ.v115, φ.c_29, φ.v116, φ.v117, φ.c_30, φ.v118, φ.v119, φ.v120, φ.v121⟩
  r2 := ⟨φ.v122, φ.c_31, φ.v123, φ.v124, φ.c_32, φ.v125, φ.v126, φ.v127, φ.v128⟩
  r3 := ⟨φ.v129, φ.c_33, φ.v130, φ.v131, φ.c_34, φ.v132, φ.v133, φ.v134, φ.v135⟩
  k := ⟨φ.v136, φ.v137, φ.v138, φ.v139, φ.c_35, φ.v140, φ.v141⟩

/-- The buffers of rounds 17 to 20 and of the key step after them. -/
abbrev group5 (φ : fn_threefry2x32.Bufs) : Group where
  r0 := ⟨φ.v142, φ.c_36, φ.v143, φ.v144, φ.c_37, φ.v145, φ.v146, φ.v147, φ.v148⟩
  r1 := ⟨φ.v149, φ.c_38, φ.v150, φ.v151, φ.c_39, φ.v152, φ.v153, φ.v154, φ.v155⟩
  r2 := ⟨φ.v156, φ.c_40, φ.v157, φ.v158, φ.c_41, φ.v159, φ.v160, φ.v161, φ.v162⟩
  r3 := ⟨φ.v163, φ.c_42, φ.v164, φ.v165, φ.c_43, φ.v166, φ.v167, φ.v168, φ.v169⟩
  k := ⟨φ.v170, φ.v171, φ.v172, φ.v173, φ.c_44, φ.v174, φ.v175⟩

/-- The softmax of the rows, the temperature one divided out first. -/
def softmaxOps : List (HloOp τ sig (Elt F)) :=
  [ TRef.nullary (.of main_cst : TRef sig f0) (constant S_ .f32 0x3F800000#32),
    TRef.unary (.of main_cst : TRef sig f0) (.of main_v0 : TRef sig fW) (broadcastInDim S32x1000000 ![] bcast_S_S32x1000000),
    TRef.binary (.of main_arg0 : TRef sig fW) (.of main_v0 : TRef sig fW) (.of main_v1 : TRef sig fW) Host.divf,
    TRef.nullary (.of main_cst_0 : TRef sig f0) (constant S_ .f32 0xFF800000#32),
    TRef.binary (.of main_v1 : TRef sig fW) (.of main_cst_0 : TRef sig f0) (.of main_v2 : TRef sig fR) (fun x v => Host.reduce FloatOps.maximumf x v reducesTo_S32x1000000_S32_d1 h_S_),
    TRef.nullary (.of main_cst_1 : TRef sig f0) (constant S_ .f32 0xFF800000#32),
    TRef.unary (.of main_cst_1 : TRef sig f0) (.of main_v3 : TRef sig fR) (broadcastInDim S32 ![] bcast_S_S32),
    TRef.binary (.of main_v3 : TRef sig fR) (.of main_v2 : TRef sig fR) (.of main_v4 : TRef sig fR) maximumf,
    TRef.unary (.of main_v4 : TRef sig fR) (.of main_v5 : TRef sig fC) (broadcastInDim S32x1 ![0] bcast_S32_S32x1_0),
    TRef.unary (.of main_v5 : TRef sig fC) (.of main_v6 : TRef sig fW) (broadcastInDim S32x1000000 ![0, 1] bcast_S32x1_S32x1000000_0_1),
    TRef.binary (.of main_v1 : TRef sig fW) (.of main_v6 : TRef sig fW) (.of main_v7 : TRef sig fW) subf,
    TRef.unary (.of main_v7 : TRef sig fW) (.of main_v8 : TRef sig fW) Host.exp,
    TRef.nullary (.of main_cst_2 : TRef sig f0) (constant S_ .f32 0x00000000#32),
    TRef.binary (.of main_v8 : TRef sig fW) (.of main_cst_2 : TRef sig f0) (.of main_v9 : TRef sig fR) (fun x v => Host.reduceAdd x v reducesTo_S32x1000000_S32_d1 h_S_),
    TRef.unary (.of main_v9 : TRef sig fR) (.of main_v10 : TRef sig fC) (broadcastInDim S32x1 ![0] bcast_S32_S32x1_0),
    TRef.unary (.of main_v10 : TRef sig fC) (.of main_v11 : TRef sig fW) (broadcastInDim S32x1000000 ![0, 1] bcast_S32x1_S32x1000000_0_1),
    TRef.binary (.of main_v8 : TRef sig fW) (.of main_v11 : TRef sig fW) (.of main_v12 : TRef sig fW) Host.divf ]

/-- The generator's key, the seed 42 as two words. -/
def seedOps : List (HloOp τ sig (Elt F)) :=
  [ TRef.nullary (.of main_c : TRef sig i0) (constantI S_ 32 42#32),
    TRef.nullary (.of main_c_3 : TRef sig i0) (constantI S_ 32 32#32),
    TRef.binary (.of main_c : TRef sig i0) (.of main_c_3 : TRef sig i0) (.of main_v13 : TRef sig i0) Host.shrui,
    TRef.unary (.of main_v13 : TRef sig i0) (.of main_v14 : TRef sig i0) id,
    TRef.unary (.of main_v14 : TRef sig i0) (.of main_v15 : TRef sig i1) (broadcastInDim S1 ![] bcast_S_S1),
    TRef.nullary (.of main_c_4 : TRef sig i0) (constantI S_ 32 4294967295#32),
    TRef.binary (.of main_c : TRef sig i0) (.of main_c_4 : TRef sig i0) (.of main_v16 : TRef sig i0) andi,
    TRef.unary (.of main_v16 : TRef sig i0) (.of main_v17 : TRef sig i0) id,
    TRef.unary (.of main_v17 : TRef sig i0) (.of main_v18 : TRef sig i1) (broadcastInDim S1 ![] bcast_S_S1),
    TRef.binary (.of main_v15 : TRef sig i1) (.of main_v18 : TRef sig i1) (.of main_v19 : TRef sig i2) (fun a b => concatenate S2 0 [⟨S1, a⟩, ⟨S1, b⟩] concatenates_S1_S1_S2_d0),
    TRef.unary (.of main_v19 : TRef sig i2) (.of main_v20 : TRef sig i1) (extractStridedSlice S1 ![0] · slices_S2_S1_0),
    TRef.unary (.of main_v20 : TRef sig i1) (.of main_v21 : TRef sig i0) (fun x => shapeCast S_ x shapeCasts_S1_S_),
    TRef.unary (.of main_v19 : TRef sig i2) (.of main_v22 : TRef sig i1) (extractStridedSlice S1 ![1] · slices_S2_S1_1),
    TRef.unary (.of main_v22 : TRef sig i1) (.of main_v23 : TRef sig i0) (fun x => shapeCast S_ x shapeCasts_S1_S_) ]

/-- The counters: the flat position of every entry, as two words. -/
def counterOps : List (HloOp τ sig (Elt F)) :=
  [ TRef.nullary (.of main_v24 : TRef sig lW) (iotaInDim S32x1000000 64 0),
    TRef.nullary (.of main_v25 : TRef sig lW) (iotaInDim S32x1000000 64 1),
    TRef.nullary (.of main_c_5 : TRef sig l0) (constantI S_ 64 1000000#64),
    TRef.unary (.of main_c_5 : TRef sig l0) (.of main_v26 : TRef sig lW) (broadcastInDim S32x1000000 ![] bcast_S_S32x1000000),
    TRef.binary (.of main_v26 : TRef sig lW) (.of main_v24 : TRef sig lW) (.of main_v27 : TRef sig lW) muli,
    TRef.nullary (.of main_c_6 : TRef sig l0) (constantI S_ 64 1#64),
    TRef.unary (.of main_c_6 : TRef sig l0) (.of main_v28 : TRef sig lW) (broadcastInDim S32x1000000 ![] bcast_S_S32x1000000),
    TRef.binary (.of main_v28 : TRef sig lW) (.of main_v25 : TRef sig lW) (.of main_v29 : TRef sig lW) muli,
    TRef.binary (.of main_v27 : TRef sig lW) (.of main_v29 : TRef sig lW) (.of main_v30 : TRef sig lW) addi,
    TRef.nullary (.of main_c_7 : TRef sig l0) (constantI S_ 64 32#64),
    TRef.unary (.of main_c_7 : TRef sig l0) (.of main_v31 : TRef sig lW) (broadcastInDim S32x1000000 ![] bcast_S_S32x1000000),
    TRef.binary (.of main_v30 : TRef sig lW) (.of main_v31 : TRef sig lW) (.of main_v32 : TRef sig lW) Host.shrui,
    TRef.unary (.of main_v30 : TRef sig lW) (.of main_v33 : TRef sig iW) (trunci 32 · natLt_32_64),
    TRef.unary (.of main_v32 : TRef sig lW) (.of main_v34 : TRef sig iW) (trunci 32 · natLt_32_64) ]

/-- The Gumbel noise of the generator's words. -/
def noiseOps : List (HloOp τ sig (Elt F)) :=
  [ TRef.binary (.of main_v35_0 : TRef sig iW) (.of main_v35_1 : TRef sig iW) (.of main_v36 : TRef sig iW) xori,
    TRef.nullary (.of main_c_8 : TRef sig i0) (constantI S_ 32 9#32),
    TRef.unary (.of main_c_8 : TRef sig i0) (.of main_v37 : TRef sig iW) (broadcastInDim S32x1000000 ![] bcast_S_S32x1000000),
    TRef.binary (.of main_v36 : TRef sig iW) (.of main_v37 : TRef sig iW) (.of main_v38 : TRef sig iW) Host.shrui,
    TRef.nullary (.of main_c_9 : TRef sig i0) (constantI S_ 32 1065353216#32),
    TRef.unary (.of main_c_9 : TRef sig i0) (.of main_v39 : TRef sig iW) (broadcastInDim S32x1000000 ![] bcast_S_S32x1000000),
    TRef.binary (.of main_v38 : TRef sig iW) (.of main_v39 : TRef sig iW) (.of main_v40 : TRef sig iW) ori,
    TRef.unary (.of main_v40 : TRef sig iW) (.of main_v41 : TRef sig fW) (bitcastToFloat .f32),
    TRef.nullary (.of main_cst_10 : TRef sig f0) (constant S_ .f32 0x3F800000#32),
    TRef.unary (.of main_cst_10 : TRef sig f0) (.of main_v42 : TRef sig fW) (broadcastInDim S32x1000000 ![] bcast_S_S32x1000000),
    TRef.binary (.of main_v41 : TRef sig fW) (.of main_v42 : TRef sig fW) (.of main_v43 : TRef sig fW) subf,
    TRef.nullary (.of main_cst_11 : TRef sig f0) (constant S_ .f32 0x00800000#32),
    TRef.unary (.of main_cst_11 : TRef sig f0) (.of main_v44 : TRef sig fW) (broadcastInDim S32x1000000 ![] bcast_S_S32x1000000),
    TRef.binary (.of main_v43 : TRef sig fW) (.of main_v44 : TRef sig fW) (.of main_v45 : TRef sig fW) maximumf,
    TRef.unary (.of main_v45 : TRef sig fW) (.of main_v46 : TRef sig fW) Host.log,
    TRef.unary (.of main_v46 : TRef sig fW) (.of main_v47 : TRef sig fW) Host.negf,
    TRef.unary (.of main_v47 : TRef sig fW) (.of main_v48 : TRef sig fW) Host.log,
    TRef.unary (.of main_v48 : TRef sig fW) (.of main_v49 : TRef sig fW) Host.negf ]

/-- The logarithm of the softmax, and the noise on it. -/
def sumOps : List (HloOp τ sig (Elt F)) :=
  [ TRef.unary (.of main_v12 : TRef sig fW) (.of main_v50 : TRef sig fW) Host.log,
    TRef.binary (.of main_v50 : TRef sig fW) (.of main_v49 : TRef sig fW) (.of main_v51 : TRef sig fW) addf ]

/-- What comes before the rounds: the third key word, and the key added to the counters. -/
def startOps (a0 a1 : TRef sig i0) (a2 a3 : TRef sig iW) (φ : fn_threefry2x32.Bufs) : List (HloOp τ sig (Elt F)) :=
  [ TRef.binary a0 a1 φ.v0 xori,
    TRef.nullary φ.c (constantI S_ 32 466688986#32),
    TRef.binary φ.v0 φ.c φ.v1 xori,
    TRef.unary a0 φ.v2 (broadcastInDim S32x1000000 ![] bcast_S_S32x1000000),
    TRef.binary a2 φ.v2 φ.v3 addi,
    TRef.unary a1 φ.v4 (broadcastInDim S32x1000000 ![] bcast_S_S32x1000000),
    TRef.binary a3 φ.v4 φ.v5 addi ]

/-- The generator's operations. -/
def threefryOps (a0 a1 : TRef sig i0) (a2 a3 : TRef sig iW) (φ : fn_threefry2x32.Bufs) : List (HloOp τ sig (Elt F)) :=
  startOps a0 a1 a2 a3 φ ++ (groupOps rotA rotA' 1#32 a1 φ.v1 φ.v3 φ.v5 (group1 φ)
    ++ (groupOps rotB rotB' 2#32 φ.v1 a0 (group1 φ).k.y0 (group1 φ).k.y1 (group2 φ)
    ++ (groupOps rotA rotA' 3#32 a0 a1 (group2 φ).k.y0 (group2 φ).k.y1 (group3 φ)
    ++ (groupOps rotB rotB' 4#32 a1 φ.v1 (group3 φ).k.y0 (group3 φ).k.y1 (group4 φ)
    ++ groupOps rotA rotA' 5#32 φ.v1 a0 (group4 φ).k.y0 (group4 φ).k.y1 (group5 φ)))))

/-- The position of each row's greatest entry. -/
def argmaxOps (x : TRef sig fW) (φ : fn_argmax.Bufs) : List (HloOp τ sig (Elt F)) :=
  [ TRef.nullary φ.v0 (iotaInDim S32x1000000 32 1),
    TRef.nullary φ.cst (constant S_ .f32 0xFF800000#32),
    TRef.nullary φ.c (constantI S_ 32 0#32),
    TRef.quaternary x φ.v0 φ.cst φ.c φ.v1_0 (fun x y u v j => (Host.argReduce reducer_argmax_f32_i32 x y u v reducesTo_S32x1000000_S32_d1 h_S_ j).1),
    TRef.quaternary x φ.v0 φ.cst φ.c φ.v1_1 (fun x y u v j => (Host.argReduce reducer_argmax_f32_i32 x y u v reducesTo_S32x1000000_S32_d1 h_S_ j).2) ]

/-- The positions as the reference returns them, a column. -/
def columnOps : List (HloOp τ sig (Elt F)) := [ TRef.unary (.of main_v52 : TRef sig iR) (.of main_v53 : TRef sig iC) (fun x => shapeCast S32x1 x shapeCasts_S32_S32x1) ]

/-- The generator's key and counters, from the reference's own values. -/
def drawOps : List (HloOp τ sig (Elt F)) :=
  threefryOps (.of main_v21) (.of main_v23) (.of main_v34) (.of main_v33) main_call0

/-- The whole reference. -/
def ops : List (HloOp τ sig (Elt F)) :=
  softmaxOps ++ (seedOps ++ (counterOps ++ (drawOps ++ (noiseOps ++ (sumOps ++ (argmaxOps (.of main_v51) main_call1 ++ columnOps))))))

/-- One operation, then the others. -/
theorem seq_cons (o : HloOp τ sig (Elt F)) (l : List (HloOp τ sig (Elt F))) :
    (seq (o :: l) : Prog (TpuEff nD τ sig (Elt F) (Pipeline.Sig Λ₀ (Fin 0) fun p => (pcfgs (F := F) p).Adm) .tc) PUnit)
      = (hlo rfl o fun _ => .ret (⟨⟩ : PUnit)) >>= fun _ => seq l := rfl

/-- No operation at all. -/
theorem seq_nil : (seq [] : Prog (TpuEff nD τ sig (Elt F) (Pipeline.Sig Λ₀ (Fin 0) fun p => (pcfgs (F := F) p).Adm) .tc) PUnit) = pure ⟨⟩ := rfl

/-- The generator's body runs its operations in order. -/
theorem threefry_eq (a0 a1 : TRef sig i0) (a2 a3 : TRef sig iW) (φ : fn_threefry2x32.Bufs) :
    fn_threefry2x32.body (F := F) a0 a1 a2 a3 φ = seq (threefryOps a0 a1 a2 a3 φ) := by
  unfold fn_threefry2x32.body fn_threefry2x32.body_part0 fn_threefry2x32.body_part1 fn_threefry2x32.body_part2
    fn_threefry2x32.body_part3 threefryOps startOps groupOps roundOps keyOps
  simp only [List.cons_append, List.nil_append, seq_cons, bind_assoc]
  rfl

/-- The argument maximum's body runs its operations in order. -/
theorem argmax_eq (x : TRef sig fW) (φ : fn_argmax.Bufs) : fn_argmax.body (F := F) x φ = seq (argmaxOps x φ) := rfl

seal Host.reduce Host.reduceAdd broadcastInDim concatenate extractStridedSlice shapeCast Host.argReduce in
/-- The reference runs its operations in order. -/
theorem main_eq (d : Dev nD) : main (F := F) d = seq ops := by
  unfold main main_part0 main_part1
  rw [threefry_eq, argmax_eq]
  unfold ops drawOps softmaxOps seedOps counterOps noiseOps sumOps columnOps
  simp only [seq_append, seq_cons, seq_nil, bind_assoc, pure_bind]
  rfl

end Cert.Sampler.Reference

end
-- ==== Proof.RefRun.lean ====
/- The reference's run. Every operation writes the buffer after the one before it and reads only earlier ones, so at the end
   every buffer still holds what its operation makes of the buffers it reads: the final contents solve all the operations. -/
module

public import proofs.«01_k».proof.Defs
public import proofs.«01_k».proof.Proof.Gen.Kernel
public import proofs.«01_k».proof.Proof.Gen.KernelIdeal
public import proofs.«01_k».proof.Proof.Gen.Pre_no_plus_infinity
public import proofs.«01_k».proof.Proof.RefOps
public import Idealize.ShloMosaic.Lib.StableHlo.RunHlo
public import Idealize.ShloMosaic.Lib.Claim

@[expose] public section

set_option maxRecDepth 100000

noncomputable section

namespace Cert.Sampler.Reference

open Cert.ReferenceIdeal
open Idealize.ShloMosaic Idealize.ShloMosaic.TcCoe Idealize.ShloMosaic.StableHlo Idealize.SL.Sem

attribute [local instance] Cert.ReferenceIdeal.Gen.facts

variable {F : FTy → Type} [FloatOps F]

/-- The operation writes the buffer numbered `n` alone, and what it writes there depends on buffers of smaller numbers only. -/
structure Line (n : ℕ) (o : HloOp τ sig (Elt F)) : Prop where
  out : ∃ y : Ref sig .tc, y.idx.val = n ∧ o.writes = {Proc.devRef .tc y}
    ∧ ∀ V V' : Valuation τ sig (Elt F), (∀ x : Ref sig .tc, x.idx.val < n → V (Proc.devRef .tc x) = V' (Proc.devRef .tc x)) →
      o.result V (Proc.devRef .tc y) = o.result V' (Proc.devRef .tc y)
  sub : o.bufs ⊆ tcRefs τ sig
  fresh : o.fresh = ∅

/-- The operations are lines numbered from `n` on. -/
def Ordered : ℕ → List (HloOp τ sig (Elt F)) → Prop
  | _, [] => True
  | n, o :: l => Line n o ∧ Ordered (n + 1) l

theorem Ordered.append {l l' : List (HloOp τ sig (Elt F))} : ∀ {n : ℕ}, Ordered n l → Ordered (n + l.length) l' → Ordered n (l ++ l') := by
  induction l with
  | nil => intro n _ h; exact h
  | cons o l ih => intro n h h'; exact ⟨h.1, ih h.2 (by rwa [List.length_cons, ← Nat.add_assoc, Nat.add_right_comm] at h')⟩

/-- Two lists one after the other, the first's end and the second's start named by their numbers. -/
theorem Ordered.then {l l' : List (HloOp τ sig (Elt F))} {n n' : ℕ} (h : Ordered n l) (e : n + l.length = n') (h' : Ordered n' l') :
    Ordered n (l ++ l') := h.append (by rwa [e])

/-- A buffer numbered below the list's first is left alone by it. -/
theorem Ordered.keeps {l : List (HloOp τ sig (Elt F))} {x : Ref sig .tc} :
    ∀ {n : ℕ} (V : Valuation τ sig (Elt F)), Ordered n l → x.idx.val < n →
      after l V (Proc.devRef .tc x) = V (Proc.devRef .tc x) := by
  induction l with
  | nil => intros; rfl
  | cons o l ih =>
    intro n V h hx
    obtain ⟨y, hy, hw, -⟩ := h.1.out
    rw [after_cons, ih _ h.2 (by omega)]
    exact result_of_writes_ne o V y x hw fun e => by subst e; omega

/-- The contents `W` solve the operations: each operation applied to them changes nothing. -/
def Solves (W : Valuation τ sig (Elt F)) (l : List (HloOp τ sig (Elt F))) : Prop := ∀ o ∈ l, o.result W = W

theorem Ordered.solves {l : List (HloOp τ sig (Elt F))} :
    ∀ {n : ℕ} (V : Valuation τ sig (Elt F)), Ordered n l → Solves (after l V) l := by
  induction l with
  | nil => intro n V _ o ho; cases ho
  | cons o l ih =>
    intro n V h o' ho'
    rcases List.mem_cons.1 ho' with rfl | ho'
    · obtain ⟨y, hy, hw, hc⟩ := h.1.out
      funext b
      by_cases hb : b ∈ o'.writes
      · rw [hw, Finset.mem_singleton] at hb
        subst hb
        rw [after_cons, h.2.keeps _ (by omega : y.idx.val < n + 1)]
        refine hc _ _ fun x hx => ?_
        rw [h.2.keeps _ (by omega : x.idx.val < n + 1)]
        exact result_of_writes_ne o' V y x hw fun e => by subst e; omega
      · exact o'.result_of_not_mem _ hb
    · exact ih _ h.2 o' ho'

theorem Ordered.sub {l : List (HloOp τ sig (Elt F))} : ∀ {n : ℕ}, Ordered n l → l.Forall fun o => o.bufs ⊆ tcRefs τ sig := by
  induction l with
  | nil => intros; trivial
  | cons o l ih => intro n h; exact (List.forall_cons _ _ _).2 ⟨h.1.sub, ih h.2⟩

theorem Ordered.fresh {l : List (HloOp τ sig (Elt F))} : ∀ {n : ℕ}, Ordered n l → ∀ o ∈ l, o.fresh = ∅ := by
  induction l with
  | nil => intro n _ o ho; cases ho
  | cons o l ih =>
    intro n h o' ho'
    rcases List.mem_cons.1 ho' with rfl | ho'
    · exact h.1.fresh
    · exact ih h.2 o' ho'

section Lines

variable {T Ta Tb Tc Te : BufTy} {n : ℕ}

/-- The number of a typed reference's buffer. -/
abbrev num {T : BufTy} (x : TRef sig T) : ℕ := x.ref.idx.val

theorem line_nullary {y : TRef sig T} (v : T.Contents (Elt F)) (hy : num y = n) : Line n (TRef.nullary y v : HloOp τ sig (Elt F)) :=
  ⟨⟨y.ref, hy, rfl, fun V V' _ => by rw [nullary_result, nullary_result]⟩, nullary_bufs_sub .., rfl⟩

theorem line_unary {a : TRef sig Ta} {y : TRef sig T} (f : Ta.Contents (Elt F) → T.Contents (Elt F)) (hy : num y = n) (ha : num a < n) :
    Line n (TRef.unary a y f : HloOp τ sig (Elt F)) :=
  ⟨⟨y.ref, hy, rfl, fun V V' h => by rw [unary_result, unary_result, h a.ref ha]⟩, unary_bufs_sub .., rfl⟩

theorem line_binary {a : TRef sig Ta} {b : TRef sig Tb} {y : TRef sig T} (f : Ta.Contents (Elt F) → Tb.Contents (Elt F) → T.Contents (Elt F))
    (hy : num y = n) (ha : num a < n) (hb : num b < n) : Line n (TRef.binary a b y f : HloOp τ sig (Elt F)) :=
  ⟨⟨y.ref, hy, rfl, fun V V' h => by rw [binary_result, binary_result, h a.ref ha, h b.ref hb]⟩,
    binary_bufs_sub .., rfl⟩

theorem line_quaternary {a : TRef sig Ta} {b : TRef sig Tb} {c : TRef sig Tc} {e : TRef sig Te} {y : TRef sig T}
    (f : Ta.Contents (Elt F) → Tb.Contents (Elt F) → Tc.Contents (Elt F) → Te.Contents (Elt F) → T.Contents (Elt F))
    (hy : num y = n) (ha : num a < n) (hb : num b < n) (hc : num c < n) (he : num e < n) :
    Line n (TRef.quaternary a b c e y f : HloOp τ sig (Elt F)) :=
  ⟨⟨y.ref, hy, rfl, fun V V' h => by
      rw [quaternary_result, quaternary_result, h a.ref ha, h b.ref hb, h c.ref hc, h e.ref he]⟩,
    quaternary_bufs_sub .., rfl⟩

end Lines

/-- The round's buffers are the nine numbered from `n` on. -/
def Round.At (n : ℕ) (R : Round) : Prop :=
  num R.s = n ∧ num R.cl = n + 1 ∧ num R.bl = n + 2 ∧ num R.l = n + 3 ∧ num R.cr = n + 4 ∧ num R.br = n + 5 ∧ num R.r = n + 6
    ∧ num R.o = n + 7 ∧ num R.y = n + 8

theorem round_ordered {n : ℕ} (a b : BitVec 32) {x0 x1 : TRef sig iW} {R : Round} (h0 : num x0 < n) (h1 : num x1 < n) (h : R.At n) :
    Ordered n (roundOps (F := F) a b x0 x1 R) := by
  obtain ⟨hs, hcl, hbl, hl, hcr, hbr, hr, ho, hy⟩ := h
  exact ⟨line_binary _ hs h0 h1, line_nullary _ hcl, line_unary _ hbl (by omega), line_binary _ hl (by omega) (by omega),
    line_nullary _ hcr, line_unary _ hbr (by omega), line_binary _ hr (by omega) (by omega), line_binary _ ho (by omega) (by omega),
    line_binary _ hy (by omega) (by omega), trivial⟩

/-- The key step's buffers are the seven numbered from `n` on. -/
def KeyStep.At (n : ℕ) (K : KeyStep) : Prop :=
  num K.b0 = n ∧ num K.y0 = n + 1 ∧ num K.b1 = n + 2 ∧ num K.t = n + 3 ∧ num K.c = n + 4 ∧ num K.b2 = n + 5 ∧ num K.y1 = n + 6

theorem key_ordered {n : ℕ} (c : BitVec 32) {k0 k1 : TRef sig i0} {x0 x1 : TRef sig iW} {K : KeyStep} (hk0 : num k0 < n) (hk1 : num k1 < n)
    (h0 : num x0 < n) (h1 : num x1 < n) (h : K.At n) : Ordered n (keyOps (F := F) c k0 k1 x0 x1 K) := by
  obtain ⟨hb0, hy0, hb1, ht, hc, hb2, hy1⟩ := h
  exact ⟨line_unary _ hb0 hk0, line_binary _ hy0 (by omega) (by omega), line_unary _ hb1 (by omega), line_binary _ ht (by omega) (by omega),
    line_nullary _ hc, line_unary _ hb2 (by omega), line_binary _ hy1 (by omega) (by omega), trivial⟩

/-- The group's buffers are the forty-three numbered from `n` on. -/
def Group.At (n : ℕ) (G : Group) : Prop :=
  G.r0.At n ∧ G.r1.At (n + 9) ∧ G.r2.At (n + 18) ∧ G.r3.At (n + 27) ∧ G.k.At (n + 36)

theorem group_ordered {n : ℕ} (a b : Fin 4 → BitVec 32) (c : BitVec 32) {k0 k1 : TRef sig i0} {x0 x1 : TRef sig iW} {G : Group}
    (hk0 : num k0 < n) (hk1 : num k1 < n) (h0 : num x0 < n) (h1 : num x1 < n) (h : G.At n) :
    Ordered n (groupOps (F := F) a b c k0 k1 x0 x1 G) := by
  obtain ⟨g0, g1, g2, g3, gk⟩ := h
  refine (round_ordered _ _ h0 h1 g0).then rfl ((round_ordered (n := n + 9) _ _ ?_ ?_ g1).then rfl
    ((round_ordered (n := n + 18) _ _ ?_ ?_ g2).then rfl ((round_ordered (n := n + 27) _ _ ?_ ?_ g3).then rfl
    (key_ordered (n := n + 36) _ ?_ ?_ ?_ ?_ gk))))
  all_goals first
    | omega
    | (have := g0.1; have := g0.2.2.2.2.2.2.2.2; omega)
    | (have := g1.1; have := g1.2.2.2.2.2.2.2.2; omega)
    | (have := g2.1; have := g2.2.2.2.2.2.2.2.2; omega)
    | (have := g3.1; have := g3.2.2.2.2.2.2.2.2; omega)

theorem start_ordered : Ordered 46 (startOps (F := F) (.of main_v21) (.of main_v23) (.of main_v34) (.of main_v33) main_call0) :=
  ⟨line_binary _ rfl (by decide) (by decide), line_nullary _ rfl, line_binary _ rfl (by decide) (by decide),
    line_unary _ rfl (by decide), line_binary _ rfl (by decide) (by decide), line_unary _ rfl (by decide),
    line_binary _ rfl (by decide) (by decide), trivial⟩

theorem draw_ordered : Ordered 46 (drawOps (F := F)) := by
  refine start_ordered.then rfl ((group_ordered (n := 53) _ _ _ ?_ ?_ ?_ ?_ ?_).then rfl
    ((group_ordered (n := 96) _ _ _ ?_ ?_ ?_ ?_ ?_).then rfl ((group_ordered (n := 139) _ _ _ ?_ ?_ ?_ ?_ ?_).then rfl
    ((group_ordered (n := 182) _ _ _ ?_ ?_ ?_ ?_ ?_).then rfl (group_ordered (n := 225) _ _ _ ?_ ?_ ?_ ?_ ?_)))))
  all_goals first | decide | exact ⟨⟨rfl, rfl, rfl, rfl, rfl, rfl, rfl, rfl, rfl⟩, ⟨rfl, rfl, rfl, rfl, rfl, rfl, rfl, rfl, rfl⟩,
      ⟨rfl, rfl, rfl, rfl, rfl, rfl, rfl, rfl, rfl⟩, ⟨rfl, rfl, rfl, rfl, rfl, rfl, rfl, rfl, rfl⟩, ⟨rfl, rfl, rfl, rfl, rfl, rfl, rfl⟩⟩

theorem softmax_ordered : Ordered 1 (softmaxOps (F := F)) := by
  unfold softmaxOps
  repeat first
    | exact trivial
    | refine ⟨line_nullary _ rfl, ?_⟩
    | refine ⟨line_unary _ rfl (by decide), ?_⟩
    | refine ⟨line_binary _ rfl (by decide) (by decide), ?_⟩

theorem seed_ordered : Ordered 18 (seedOps (F := F)) := by
  unfold seedOps
  repeat first
    | exact trivial
    | refine ⟨line_nullary _ rfl, ?_⟩
    | refine ⟨line_unary _ rfl (by decide), ?_⟩
    | refine ⟨line_binary _ rfl (by decide) (by decide), ?_⟩

theorem counter_ordered : Ordered 32 (counterOps (F := F)) := by
  unfold counterOps
  repeat first
    | exact trivial
    | refine ⟨line_nullary _ rfl, ?_⟩
    | refine ⟨line_unary _ rfl (by decide), ?_⟩
    | refine ⟨line_binary _ rfl (by decide) (by decide), ?_⟩

theorem noise_ordered : Ordered 268 (noiseOps (F := F)) := by
  unfold noiseOps
  repeat first
    | exact trivial
    | refine ⟨line_nullary _ rfl, ?_⟩
    | refine ⟨line_unary _ rfl (by decide), ?_⟩
    | refine ⟨line_binary _ rfl (by decide) (by decide), ?_⟩

theorem sum_ordered : Ordered 286 (sumOps (F := F)) :=
  ⟨line_unary _ rfl (by decide), line_binary _ rfl (by decide) (by decide), trivial⟩

theorem argmax_ordered : Ordered 288 (argmaxOps (F := F) (.of main_v51) main_call1) :=
  ⟨line_nullary _ rfl, line_nullary _ rfl, line_nullary _ rfl, line_quaternary _ rfl (by decide) (by decide) (by decide) (by decide),
    line_quaternary _ rfl (by decide) (by decide) (by decide) (by decide), trivial⟩

theorem column_ordered : Ordered 293 (columnOps (F := F)) := ⟨line_unary _ rfl (by decide), trivial⟩

/-- The reference's operations write the buffers in order, the argument being the first. -/
theorem ordered : Ordered 1 (ops (F := F)) :=
  softmax_ordered.then rfl (seed_ordered.then rfl (counter_ordered.then rfl (draw_ordered.then rfl (noise_ordered.then rfl
    (sum_ordered.then rfl (argmax_ordered.then rfl column_ordered))))))

theorem no_scoped_buffers : (Finset.univ.filter fun b : Ref sig .tc => b.isScoped) = ∅ := by decide

theorem no_scoped_semaphores : (Finset.univ.filter fun s : SemLoc sig => s.isScoped .tc) = ∅ := by decide

/-- The reference's run: it ends, with contents that solve its operations, its argument as it was, and no counter raised. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ d : Dev nD, r.2.mem ((d.tc : Thread nD τ).loc main_arg0) = m ((d.tc : Thread nD τ).loc main_arg0)
        ∧ ∃ W : Valuation τ sig (Elt F), Solves W ops ∧ ∀ b : Ref sig .tc, r.2.mem ((d.tc : Thread nD τ).loc b) = W (Proc.devRef .tc b))
      ∧ r.2.sem = fun _ => 0 :=
  θ_run_mono (run_seq no_scoped_buffers no_scoped_semaphores defs main (fun _ => ops) main_eq (fun _ => ordered.sub) m ρ
      (fun _ => ordered.fresh)) fun r h =>
    ⟨fun d => ⟨(h d main_arg0).trans (ordered.keeps _ (by decide)), after ops (launchContents m d), ordered.solves _, h d⟩,
      sem_eq_zero_of_no_sems (by rfl) _⟩

/-- The reference's frame. -/
theorem frame : Cert.quiescent_ReferenceIdeal (hReferenceIdeal := Cert.ReferenceIdeal.Gen.facts) := fun m g _ =>
  θ_run_mono (run m g) fun _ h => ⟨fun c => (h.1 c).1, h.2⟩

theorem frame_pre : Cert.quiescent_ReferenceIdeal_pre_no_plus_infinity (hReferenceIdeal := Cert.ReferenceIdeal.Gen.facts)
    (hPre_no_plus_infinity := Cert.Pre_no_plus_infinity.Gen.facts) := fun m g _ =>
  θ_run_mono (run m g) fun _ h => ⟨fun c => (h.1 c).1, h.2⟩

end Cert.Sampler.Reference

end
-- ==== Proof.Words.lean ====
/- The generator's words as functions of the counter, and the kernel's words at a lane: the same function. -/
module

public import proofs.«01_k».proof.Proof.Lanes

@[expose] public section

set_option maxRecDepth 16384

noncomputable section

namespace Cert.Sampler

open Cert.KernelIdeal Cert.KernelIdeal.Gen
open Idealize.ShloMosaic Idealize.ShloMosaic.TcCoe Idealize.ShloMosaic.Tactic

variable {F : FTy → Type} [FloatOps F]

/-- The word `y` rotated by `a` to the left, `b` being the complement of `a` to 32, and mixed with `s`. -/
def mixed (a b s y : BitVec 32) : BitVec 32 := (y <<< a ||| y >>> b) ^^^ s

/-- One round on a pair of words. -/
def roundW (a b : BitVec 32) (q : BitVec 32 × BitVec 32) : BitVec 32 × BitVec 32 := (q.1 + q.2, mixed a b (q.1 + q.2) q.2)

/-- The key step numbered `n`. -/
def keyW (n k0 k1 : BitVec 32) (q : BitVec 32 × BitVec 32) : BitVec 32 × BitVec 32 := (q.1 + k0, q.2 + k1 + n)

/-- Four rounds and a key step. -/
def groupW (a b : Fin 4 → BitVec 32) (n k0 k1 : BitVec 32) (q : BitVec 32 × BitVec 32) : BitVec 32 × BitVec 32 :=
  keyW n k0 k1 (roundW (a 3) (b 3) (roundW (a 2) (b 2) (roundW (a 1) (b 1) (roundW (a 0) (b 0) q))))

/-- The generator for the key (0, 42) on the counter's two words, the key already added: its two words. -/
def wordPair (q : BitVec 32 × BitVec 32) : BitVec 32 × BitVec 32 :=
  groupW ![13#32, 15#32, 26#32, 6#32] ![19#32, 17#32, 6#32, 26#32] 5#32 466689008#32 0#32
    (groupW ![17#32, 29#32, 16#32, 24#32] ![15#32, 3#32, 16#32, 8#32] 4#32 42#32 466689008#32
    (groupW ![13#32, 15#32, 26#32, 6#32] ![19#32, 17#32, 6#32, 26#32] 3#32 0#32 42#32
    (groupW ![17#32, 29#32, 16#32, 24#32] ![15#32, 3#32, 16#32, 8#32] 2#32 466689008#32 0#32
    (groupW ![13#32, 15#32, 26#32, 6#32] ![19#32, 17#32, 6#32, 26#32] 1#32 42#32 466689008#32 q))))

/-- The random word of the entry at the flat position `n`. -/
def wordAt (n : ℕ) : BitVec 32 := (wordPair (0#32, BitVec.ofNat 32 n + 42#32)).1 ^^^ (wordPair (0#32, BitVec.ofNat 32 n + 42#32)).2

theorem shli_lane {s : Shape} (x : IVec s 32) (a : BitVec 32) (p : s.Idx) (h : a.toNat < 32) : shli x (broadcast s a) p = x p <<< a :=
  if_pos h

theorem shrui_lane {s : Shape} (x : IVec s 32) (a : BitVec 32) (p : s.Idx) (h : a.toNat < 32) : shrui x (broadcast s a) p = x p >>> a :=
  if_pos h

/-- A rotation and a mix in the kernel, at a lane. -/
theorem mixed_lane {s : Shape} (x y : IVec s 32) (a b : BitVec 32) (p : s.Idx) (ha : a.toNat < 32) (hb : b.toNat < 32) :
    xori (ori (shli y (broadcast s a)) (shrui y (broadcast s b))) x p = mixed a b (x p) (y p) := by
  show IntOp.xori (IntOp.ori (shli y (broadcast s a) p) (shrui y (broadcast s b) p)) (x p) = _
  rw [shli_lane _ _ _ ha, shrui_lane _ _ _ hb]
  rfl

theorem addi_lane {s : Shape} (x y : IVec s 32) (p : s.Idx) : addi x y p = x p + y p := rfl

theorem broadcast_lane {s : Shape} (a : BitVec 32) (p : s.Idx) : broadcast s a p = a := rfl

/-- The kernel's first four rounds. -/
theorem words_one (i : grid0.Coords) (b : Vec F S32x8192 .i32) (p : S32x8192.Idx) :
    (k0_pay14 i b p, k0_pay15 i b p + 1#32)
      = groupW ![13#32, 15#32, 26#32, 6#32] ![19#32, 17#32, 6#32, 26#32] 1#32 42#32 466689008#32 (0#32, b p + stepWord i * 8192#32) := by
  have h6 : k0_pay6 i b p = b p + stepWord i * 8192#32 := rfl
  have h8 : k0_pay8 i b p = mixed 13#32 19#32 (k0_pay7 i b p) (k0_pay6 i b p) := mixed_lane _ _ _ _ _ (by decide) (by decide)
  have h10 : k0_pay10 i b p = mixed 15#32 17#32 (k0_pay9 i b p) (k0_pay8 i b p) := mixed_lane _ _ _ _ _ (by decide) (by decide)
  have h12 : k0_pay12 i b p = mixed 26#32 6#32 (k0_pay11 i b p) (k0_pay10 i b p) := mixed_lane _ _ _ _ _ (by decide) (by decide)
  have h15 : k0_pay15 i b p = mixed 6#32 26#32 (k0_pay13 i b p) (k0_pay12 i b p) + 466689008#32 :=
    congrArg (· + 466689008#32) (mixed_lane _ _ _ _ _ (by decide) (by decide))
  have h7 : k0_pay7 i b p = 0#32 + k0_pay6 i b p := rfl
  have h9 : k0_pay9 i b p = k0_pay7 i b p + k0_pay8 i b p := rfl
  have h11 : k0_pay11 i b p = k0_pay9 i b p + k0_pay10 i b p := rfl
  have h13 : k0_pay13 i b p = k0_pay11 i b p + k0_pay12 i b p := rfl
  have h14 : k0_pay14 i b p = k0_pay13 i b p + 42#32 := rfl
  rw [h14, h15, h13, h12, h11, h10, h9, h8, h7, h6]
  rfl

/-- Its next five. -/
theorem words_two (u v w : IVec S32x8192 32) (p : S32x8192.Idx) :
    (k0_pay26 u v w p, k0_pay27 u v w p) = roundW 13#32 19#32
      (groupW ![17#32, 29#32, 16#32, 24#32] ![15#32, 3#32, 16#32, 8#32] 2#32 466689008#32 0#32 (u p, v p + w p)) := by
  have h19 : k0_pay19 u v w p = mixed 17#32 15#32 (k0_pay18 u v w p) (k0_pay17 v w p) := mixed_lane _ _ _ _ _ (by decide) (by decide)
  have h21 : k0_pay21 u v w p = mixed 29#32 3#32 (k0_pay20 u v w p) (k0_pay19 u v w p) := mixed_lane _ _ _ _ _ (by decide) (by decide)
  have h23 : k0_pay23 u v w p = mixed 16#32 16#32 (k0_pay22 u v w p) (k0_pay21 u v w p) := mixed_lane _ _ _ _ _ (by decide) (by decide)
  have h25 : k0_pay25 u v w p = mixed 24#32 8#32 (k0_pay24 u v w p) (k0_pay23 u v w p) + 0#32 + 2#32 :=
    congrArg (· + 0#32 + 2#32) (mixed_lane _ _ _ _ _ (by decide) (by decide))
  have h27 : k0_pay27 u v w p = mixed 13#32 19#32 (k0_pay26 u v w p) (k0_pay25 u v w p) := mixed_lane _ _ _ _ _ (by decide) (by decide)
  have h17 : k0_pay17 v w p = v p + w p := rfl
  have h18 : k0_pay18 u v w p = u p + k0_pay17 v w p := rfl
  have h20 : k0_pay20 u v w p = k0_pay18 u v w p + k0_pay19 u v w p := rfl
  have h22 : k0_pay22 u v w p = k0_pay20 u v w p + k0_pay21 u v w p := rfl
  have h24 : k0_pay24 u v w p = k0_pay22 u v w p + k0_pay23 u v w p := rfl
  have h26 : k0_pay26 u v w p = k0_pay24 u v w p + 466689008#32 + k0_pay25 u v w p := rfl
  rw [h27, h26, h25, h24, h23, h22, h21, h20, h19, h18, h17]
  rfl

/-- Its next six. -/
theorem words_three (u v w : IVec S32x8192 32) (p : S32x8192.Idx) (q : BitVec 32 × BitVec 32) (hu : u p = q.2) (hv : v p = q.1 + q.2)
    (hw : w p = q.2 <<< 15#32) :
    (k0_pay39 u v w 17#32 p, k0_pay40 u v w 17#32 p) = roundW 16#32 16#32 (roundW 29#32 3#32 (roundW 17#32 15#32
      (keyW 3#32 0#32 42#32 (roundW 6#32 26#32 (roundW 26#32 6#32 (roundW 15#32 17#32 q)))))) := by
  have h30 : k0_pay30 u v w 17#32 p = mixed 15#32 17#32 (v p) (u p) := by
    show IntOp.xori (IntOp.ori (w p) (shrui u (broadcast _ 17#32) p)) (v p) = _
    rw [shrui_lane _ _ _ (by decide), hw, ← hu]
    rfl
  have h32 : k0_pay32 u v w 17#32 p = mixed 26#32 6#32 (k0_pay31 u v w 17#32 p) (k0_pay30 u v w 17#32 p) := mixed_lane _ _ _ _ _ (by decide) (by decide)
  have h34 : k0_pay34 u v w 17#32 p = mixed 6#32 26#32 (k0_pay33 u v w 17#32 p) (k0_pay32 u v w 17#32 p) + 42#32 + 3#32 :=
    congrArg (· + 42#32 + 3#32) (mixed_lane _ _ _ _ _ (by decide) (by decide))
  have h36 : k0_pay36 u v w 17#32 p = mixed 17#32 15#32 (k0_pay35 u v w 17#32 p) (k0_pay34 u v w 17#32 p) := mixed_lane _ _ _ _ _ (by decide) (by decide)
  have h38 : k0_pay38 u v w 17#32 p = mixed 29#32 3#32 (k0_pay37 u v w 17#32 p) (k0_pay36 u v w 17#32 p) := mixed_lane _ _ _ _ _ (by decide) (by decide)
  have h40 : k0_pay40 u v w 17#32 p = mixed 16#32 16#32 (k0_pay39 u v w 17#32 p) (k0_pay38 u v w 17#32 p) := mixed_lane _ _ _ _ _ (by decide) (by decide)
  have h31 : k0_pay31 u v w 17#32 p = v p + k0_pay30 u v w 17#32 p := rfl
  have h33 : k0_pay33 u v w 17#32 p = k0_pay31 u v w 17#32 p + k0_pay32 u v w 17#32 p := rfl
  have h35 : k0_pay35 u v w 17#32 p = k0_pay33 u v w 17#32 p + 0#32 + k0_pay34 u v w 17#32 p := rfl
  have h37 : k0_pay37 u v w 17#32 p = k0_pay35 u v w 17#32 p + k0_pay36 u v w 17#32 p := rfl
  have h39 : k0_pay39 u v w 17#32 p = k0_pay37 u v w 17#32 p + k0_pay38 u v w 17#32 p := rfl
  rw [h40, h39, h38, h37, h36, h35, h34, h33, h32, h31, h30, hv, hu]
  rfl

/-- Its last five. -/
theorem words_four (u v : IVec S32x8192 32) (p : S32x8192.Idx) (q : BitVec 32 × BitVec 32) (hu : u p = q.2) (hv : v p = q.1 + q.2) :
    (k0_pay50 u v 24#32 p, k0_pay51 u v 24#32 p + 5#32)
      = groupW ![13#32, 15#32, 26#32, 6#32] ![19#32, 17#32, 6#32, 26#32] 5#32 466689008#32 0#32
        (keyW 4#32 42#32 466689008#32 (roundW 24#32 8#32 q)) := by
  have h42 : k0_pay42 u v 24#32 p = mixed 24#32 8#32 (v p) (u p) + 466689008#32 + 4#32 :=
    congrArg (· + 466689008#32 + 4#32) (mixed_lane _ _ _ _ _ (by decide) (by decide))
  have h44 : k0_pay44 u v 24#32 p = mixed 13#32 19#32 (k0_pay43 u v 24#32 p) (k0_pay42 u v 24#32 p) := mixed_lane _ _ _ _ _ (by decide) (by decide)
  have h46 : k0_pay46 u v 24#32 p = mixed 15#32 17#32 (k0_pay45 u v 24#32 p) (k0_pay44 u v 24#32 p) := mixed_lane _ _ _ _ _ (by decide) (by decide)
  have h48 : k0_pay48 u v 24#32 p = mixed 26#32 6#32 (k0_pay47 u v 24#32 p) (k0_pay46 u v 24#32 p) := mixed_lane _ _ _ _ _ (by decide) (by decide)
  have h51 : k0_pay51 u v 24#32 p = mixed 6#32 26#32 (k0_pay49 u v 24#32 p) (k0_pay48 u v 24#32 p) + 0#32 :=
    congrArg (· + 0#32) (mixed_lane _ _ _ _ _ (by decide) (by decide))
  have h43 : k0_pay43 u v 24#32 p = v p + 42#32 + k0_pay42 u v 24#32 p := rfl
  have h45 : k0_pay45 u v 24#32 p = k0_pay43 u v 24#32 p + k0_pay44 u v 24#32 p := rfl
  have h47 : k0_pay47 u v 24#32 p = k0_pay45 u v 24#32 p + k0_pay46 u v 24#32 p := rfl
  have h49 : k0_pay49 u v 24#32 p = k0_pay47 u v 24#32 p + k0_pay48 u v 24#32 p := rfl
  have h50 : k0_pay50 u v 24#32 p = k0_pay49 u v 24#32 p + 466689008#32 := rfl
  rw [h50, h51, h49, h48, h47, h46, h45, h44, h43, h42, hv, hu]
  rfl

/-- The kernel's word at a lane is the generator's on the lane's counter. -/
theorem laneWord_eq (i : grid0.Coords) (b : Vec F S32x8192 .i32) (p : S32x8192.Idx) :
    laneWord i b p = (wordPair (0#32, b p + stepWord i * 8192#32)).1 ^^^ (wordPair (0#32, b p + stepWord i * 8192#32)).2 := by
  have h1 := words_one i b p
  have h2 := words_two (k0_pay14 i b) (k0_pay15 i b) k0_pay16 p
  have e : k0_pay15 i b p + k0_pay16 p = k0_pay15 i b p + 1#32 := rfl
  rw [e, h1] at h2
  have h3 := words_three (k0_pay27 (k0_pay14 i b) (k0_pay15 i b) k0_pay16) (k0_pay28 (k0_pay14 i b) (k0_pay15 i b) k0_pay16)
    (k0_pay29 (k0_pay14 i b) (k0_pay15 i b) k0_pay16) p (k0_pay26 (k0_pay14 i b) (k0_pay15 i b) k0_pay16 p, k0_pay27 (k0_pay14 i b) (k0_pay15 i b) k0_pay16 p)
    rfl rfl (shli_lane _ _ _ (by decide))
  rw [h2] at h3
  have h4 := words_four
    (k0_pay40 (k0_pay27 (k0_pay14 i b) (k0_pay15 i b) k0_pay16) (k0_pay28 (k0_pay14 i b) (k0_pay15 i b) k0_pay16)
      (k0_pay29 (k0_pay14 i b) (k0_pay15 i b) k0_pay16) 17#32)
    (k0_pay41 (k0_pay27 (k0_pay14 i b) (k0_pay15 i b) k0_pay16) (k0_pay28 (k0_pay14 i b) (k0_pay15 i b) k0_pay16)
      (k0_pay29 (k0_pay14 i b) (k0_pay15 i b) k0_pay16) 17#32) p
    (k0_pay39 (k0_pay27 (k0_pay14 i b) (k0_pay15 i b) k0_pay16) (k0_pay28 (k0_pay14 i b) (k0_pay15 i b) k0_pay16)
      (k0_pay29 (k0_pay14 i b) (k0_pay15 i b) k0_pay16) 17#32 p,
     k0_pay40 (k0_pay27 (k0_pay14 i b) (k0_pay15 i b) k0_pay16) (k0_pay28 (k0_pay14 i b) (k0_pay15 i b) k0_pay16)
      (k0_pay29 (k0_pay14 i b) (k0_pay15 i b) k0_pay16) 17#32 p) rfl rfl
  rw [h3] at h4
  have h := congrArg (fun q : BitVec 32 × BitVec 32 => q.1 ^^^ q.2) h4
  exact h

end Cert.Sampler

end
-- ==== Proof.RefWords.lean ====
/- The words the reference's generator leaves: at every entry the generator's function of the entry's flat position. -/
module

public import proofs.«01_k».proof.Proof.RefRun
public import proofs.«01_k».proof.Proof.Words
public import Idealize.ShloMosaic.Lib.Pipeline.Value

@[expose] public section

set_option maxRecDepth 16384

noncomputable section

namespace Cert.Sampler.Reference

open Cert.ReferenceIdeal
open Idealize.ShloMosaic Idealize.ShloMosaic.TcCoe Idealize.ShloMosaic.StableHlo

attribute [local instance] Cert.ReferenceIdeal.Gen.facts

variable {F : FTy → Type} [FloatOps F]

/-! ## Reading an operation's equation -/

section Read

variable {T Ta Tb Tc Te : BufTy} {W : Valuation τ sig (Elt F)}

/-- A buffer's contents at its declared type. -/
abbrev rd (W : Valuation τ sig (Elt F)) (t : TRef sig T) : T.Contents (Elt F) := t.ofBuf (W (Proc.devRef .tc t.ref))

theorem rd_nullary {y : TRef sig T} {v : T.Contents (Elt F)} (h : (TRef.nullary y v : HloOp τ sig (Elt F)).result W = W) : rd W y = v := by
  have e := congrFun h (Proc.devRef .tc y.ref)
  rw [nullary_result] at e
  exact (congrArg y.ofBuf e.symm).trans (TRef.ofBuf_toBuf _ _)

theorem rd_unary {a : TRef sig Ta} {y : TRef sig T} {f : Ta.Contents (Elt F) → T.Contents (Elt F)}
    (h : (TRef.unary a y f : HloOp τ sig (Elt F)).result W = W) : rd W y = f (rd W a) := by
  have e := congrFun h (Proc.devRef .tc y.ref)
  rw [unary_result] at e
  exact (congrArg y.ofBuf e.symm).trans (TRef.ofBuf_toBuf _ _)

theorem rd_binary {a : TRef sig Ta} {b : TRef sig Tb} {y : TRef sig T} {f : Ta.Contents (Elt F) → Tb.Contents (Elt F) → T.Contents (Elt F)}
    (h : (TRef.binary a b y f : HloOp τ sig (Elt F)).result W = W) : rd W y = f (rd W a) (rd W b) := by
  have e := congrFun h (Proc.devRef .tc y.ref)
  rw [binary_result] at e
  exact (congrArg y.ofBuf e.symm).trans (TRef.ofBuf_toBuf _ _)

theorem rd_quaternary {a : TRef sig Ta} {b : TRef sig Tb} {c : TRef sig Tc} {e : TRef sig Te} {y : TRef sig T}
    {f : Ta.Contents (Elt F) → Tb.Contents (Elt F) → Tc.Contents (Elt F) → Te.Contents (Elt F) → T.Contents (Elt F)}
    (h : (TRef.quaternary a b c e y f : HloOp τ sig (Elt F)).result W = W) : rd W y = f (rd W a) (rd W b) (rd W c) (rd W e) := by
  have e' := congrFun h (Proc.devRef .tc y.ref)
  rw [quaternary_result] at e'
  exact (congrArg y.ofBuf e'.symm).trans (TRef.ofBuf_toBuf _ _)

theorem solves_cons {o : HloOp τ sig (Elt F)} {l : List (HloOp τ sig (Elt F))} : Solves W (o :: l) ↔ o.result W = W ∧ Solves W l :=
  List.forall_mem_cons

theorem solves_append {l l' : List (HloOp τ sig (Elt F))} : Solves W (l ++ l') ↔ Solves W l ∧ Solves W l' :=
  List.forall_mem_append

end Read

/-! ## The rounds -/

theorem shli_host {s : Shape} (x : IVec s 32) (a : BitVec 32) (h : a.toNat < 32) (j : s.Idx) : Host.shli x (fun _ => a) j = x j <<< a :=
  if_pos h

theorem shrui_host {s : Shape} {w : ℕ} (x : IVec s w) (a : BitVec w) (h : a.toNat < w) (j : s.Idx) : Host.shrui x (fun _ => a) j = x j >>> a :=
  if_pos h

variable {W : Valuation τ sig (Elt F)}

/-- One round at an entry. -/
theorem round_words {a b : BitVec 32} {x0 x1 : TRef sig iW} {R : Round} (h : Solves W (roundOps a b x0 x1 R)) (ha : a.toNat < 32)
    (hb : b.toNat < 32) (j : S32x1000000.Idx) :
    ((rd W R.s j, rd W R.y j) : BitVec 32 × BitVec 32) = roundW a b (rd W x0 j, rd W x1 j) := by
  simp only [roundOps, solves_cons] at h
  obtain ⟨h1, h2, h3, h4, h5, h6, h7, h8, h9, -⟩ := h
  have es : rd W R.s j = rd W x0 j + rd W x1 j := congrFun (rd_binary h1) j
  have el : rd W R.l j = rd W x1 j <<< a := by
    rw [rd_binary h4, rd_unary h3, rd_nullary h2]
    exact shli_host _ _ ha _
  have er : rd W R.r j = rd W x1 j >>> b := by
    rw [rd_binary h7, rd_unary h6, rd_nullary h5]
    exact shrui_host _ _ hb _
  have eo : rd W R.o j = rd W R.l j ||| rd W R.r j := congrFun (rd_binary h8) j
  have ey : rd W R.y j = rd W R.s j ^^^ rd W R.o j := congrFun (rd_binary h9) j
  rw [ey, eo, el, er, es, BitVec.xor_comm]
  rfl

/-- A key step at an entry. -/
theorem key_words {n c0 c1 : BitVec 32} {k0 k1 : TRef sig i0} {x0 x1 : TRef sig iW} {K : KeyStep} (h : Solves W (keyOps n k0 k1 x0 x1 K))
    (e0 : rd W k0 = fun _ => c0) (e1 : rd W k1 = fun _ => c1) (j : S32x1000000.Idx) :
    ((rd W K.y0 j, rd W K.y1 j) : BitVec 32 × BitVec 32) = keyW n c0 c1 (rd W x0 j, rd W x1 j) := by
  simp only [keyOps, solves_cons] at h
  obtain ⟨h1, h2, h3, h4, h5, h6, h7, -⟩ := h
  have ey0 : rd W K.y0 j = rd W x0 j + c0 := by
    rw [rd_binary h2, rd_unary h1, e0]; rfl
  have et : rd W K.t j = rd W x1 j + c1 := by
    rw [rd_binary h4, rd_unary h3, e1]; rfl
  have ey1 : rd W K.y1 j = rd W K.t j + n := by
    rw [rd_binary h7, rd_unary h6, rd_nullary h5]; rfl
  rw [ey1, et, ey0]
  rfl

/-- Four rounds and a key step at an entry. -/
theorem group_words {a b : Fin 4 → BitVec 32} {n c0 c1 : BitVec 32} {k0 k1 : TRef sig i0} {x0 x1 : TRef sig iW} {G : Group}
    (h : Solves W (groupOps a b n k0 k1 x0 x1 G)) (ha : ∀ i, (a i).toNat < 32) (hb : ∀ i, (b i).toNat < 32)
    (e0 : rd W k0 = fun _ => c0) (e1 : rd W k1 = fun _ => c1) (j : S32x1000000.Idx) :
    ((rd W G.k.y0 j, rd W G.k.y1 j) : BitVec 32 × BitVec 32) = groupW a b n c0 c1 (rd W x0 j, rd W x1 j) := by
  simp only [groupOps, solves_append] at h
  obtain ⟨h0, h1, h2, h3, h4⟩ := h
  rw [key_words h4 e0 e1, round_words h3 (ha 3) (hb 3), round_words h2 (ha 2) (hb 2), round_words h1 (ha 1) (hb 1),
    round_words h0 (ha 0) (hb 0)]
  rfl

/-- The whole generator at an entry, for the key (0, 42). -/
theorem threefry_words {a0 a1 : TRef sig i0} {a2 a3 : TRef sig iW} {φ : fn_threefry2x32.Bufs} (h : Solves W (threefryOps a0 a1 a2 a3 φ))
    (e0 : rd W a0 = fun _ => 0#32) (e1 : rd W a1 = fun _ => 42#32) (j : S32x1000000.Idx) :
    ((rd W (group5 φ).k.y0 j, rd W (group5 φ).k.y1 j) : BitVec 32 × BitVec 32) = wordPair (rd W a2 j + 0#32, rd W a3 j + 42#32) := by
  have hA : ∀ i, (rotA i).toNat < 32 := by decide
  have hA' : ∀ i, (rotA' i).toNat < 32 := by decide
  have hB : ∀ i, (rotB i).toNat < 32 := by decide
  have hB' : ∀ i, (rotB' i).toNat < 32 := by decide
  unfold threefryOps at h
  simp only [solves_append] at h
  obtain ⟨hs, h1, h2, h3, h4, h5⟩ := h
  simp only [startOps, solves_cons] at hs
  obtain ⟨s1, s2, s3, s4, s5, s6, s7, -⟩ := hs
  have e2 : rd W φ.v1 = fun _ => 466689008#32 := by
    rw [rd_binary s3, rd_nullary s2, rd_binary s1, e0, e1]
    funext i
    show (0#32 ^^^ 42#32) ^^^ 466688986#32 = 466689008#32
    decide
  have ex0 : rd W φ.v3 j = rd W a2 j + 0#32 := by rw [rd_binary s5, rd_unary s4, e0]; rfl
  have ex1 : rd W φ.v5 j = rd W a3 j + 42#32 := by rw [rd_binary s7, rd_unary s6, e1]; rfl
  rw [group_words h5 hA hA' e2 e0, group_words h4 hB hB' e1 e2, group_words h3 hA hA' e0 e1, group_words h2 hB hB' e2 e0,
    group_words h1 hA hA' e1 e2, ex0, ex1]
  rfl

/-! ## The key and the counters -/

/-- The one index of a vector of one word. -/
def lone : S1.Idx
  | ⟨0, _⟩ => (0 : Fin 1)

/-- The indices of a vector of two words. -/
def pick (n : Fin 2) : S2.Idx
  | ⟨0, _⟩ => n

/-- The key's words: the seed 42 split in two. -/
theorem seed_words (h : Solves W seedOps) : rd W (.of main_v21 : TRef sig i0) = (fun _ => 0#32) ∧ rd W (.of main_v23 : TRef sig i0) = fun _ => 42#32 := by
  simp only [seedOps, solves_cons] at h
  obtain ⟨h1, h2, h3, h4, h5, h6, h7, h8, h9, h10, h11, h12, h13, h14, -⟩ := h
  have e15 : rd W (.of main_v15 : TRef sig i1) = fun _ => 0#32 := by
    rw [rd_unary h5, rd_unary h4, rd_binary h3, rd_nullary h1, rd_nullary h2]
    rfl
  have e18 : rd W (.of main_v18 : TRef sig i1) = fun _ => 42#32 := by
    rw [rd_unary h9, rd_unary h8, rd_binary h7, rd_nullary h1, rd_nullary h6]
    funext i
    show 42#32 &&& 4294967295#32 = 42#32
    decide
  have e19 := rd_binary h10
  rw [e15, e18] at e19
  constructor
  · rw [rd_unary h12, rd_unary h11, e19]
    have low : ∀ k : S1.Idx, extractStridedSlice S1 ![0] (concatenate S2 0 [⟨S1, fun _ => 0#32⟩, ⟨S1, fun _ => 42#32⟩]
        Facts₀.concatenates_S1_S1_S2_d0) Facts₀.slices_S2_S1_0 k = 0#32 := fun k => by
      refine (extractStridedSlice_apply _ _ _ k (pick 0) fun a => ?_).trans (concatenate_pair_apply_left 0 (fun _ => 0#32) (fun _ => 42#32)
        Facts₀.concatenates_S1_S1_S2_d0 (pick 0) rfl lone (fun b => by match b with | ⟨0, _⟩ => rfl))
      match a with
      | ⟨0, _⟩ =>
        have hk : (k 0).val < 1 := (k 0).isLt
        show 0 = 0 + (k 0).val
        omega
    funext i
    exact low _
  · rw [rd_unary h14, rd_unary h13, e19]
    have high : ∀ k : S1.Idx, extractStridedSlice S1 ![1] (concatenate S2 0 [⟨S1, fun _ => 0#32⟩, ⟨S1, fun _ => 42#32⟩]
        Facts₀.concatenates_S1_S1_S2_d0) Facts₀.slices_S2_S1_1 k = 42#32 := fun k => by
      refine (extractStridedSlice_apply _ _ _ k (pick 1) fun a => ?_).trans (concatenate_pair_apply_right 0 (fun _ => 0#32) (fun _ => 42#32)
        Facts₀.concatenates_S1_S1_S2_d0 (pick 1) rfl rfl lone (fun b hb => absurd (by match b with | ⟨0, _⟩ => rfl) hb) rfl)
      match a with
      | ⟨0, _⟩ =>
        have hk : (k 0).val < 1 := (k 0).isLt
        show 1 = 1 + (k 0).val
        omega
    funext i
    exact high _

/-- A flat position computed in 64 bits. -/
theorem flat_position (a b : ℕ) (ha : a < 32) (hb : b < 1000000) :
    1000000#64 * BitVec.ofNat 64 a + 1#64 * BitVec.ofNat 64 b = BitVec.ofNat 64 (a * 1000000 + b) := by
  apply BitVec.eq_of_toNat_eq
  simp only [BitVec.toNat_add, BitVec.toNat_mul, BitVec.toNat_ofNat]
  omega

/-- Its high word is zero. -/
theorem flat_high (n : ℕ) (hn : n < 32000000) : (BitVec.ofNat 64 n >>> 32#64).setWidth 32 = 0#32 := by
  apply BitVec.eq_of_toNat_eq
  simp only [BitVec.toNat_setWidth, BitVec.toNat_ushiftRight, BitVec.ushiftRight_eq', BitVec.toNat_ofNat, Nat.shiftRight_eq_div_pow, Nat.reducePow,
    Nat.reduceMod]
  omega

/-- Its low word is the position in 32 bits. -/
theorem flat_low (n : ℕ) : (BitVec.ofNat 64 n).setWidth 32 = BitVec.ofNat 32 n := by
  apply BitVec.eq_of_toNat_eq
  simp only [BitVec.toNat_setWidth, BitVec.toNat_ofNat]
  omega

/-- The counters: the high word zero, the low word the flat position. -/
theorem counter_words (h : Solves W counterOps) (j : S32x1000000.Idx) :
    rd W (.of main_v34 : TRef sig iW) j = 0#32 ∧ rd W (.of main_v33 : TRef sig iW) j = BitVec.ofNat 32 ((j 0).val * 1000000 + (j 1).val) := by
  simp only [counterOps, solves_cons] at h
  obtain ⟨h1, h2, h3, h4, h5, h6, h7, h8, h9, h10, h11, h12, h13, h14, -⟩ := h
  have h0 : (j 0).val < 32 := (j 0).isLt
  have h1' : (j 1).val < 1000000 := (j 1).isLt
  have e30 : rd W (.of main_v30 : TRef sig lW) j = BitVec.ofNat 64 ((j 0).val * 1000000 + (j 1).val) := by
    rw [rd_binary h9, rd_binary h8, rd_unary h7, rd_nullary h6, rd_binary h5, rd_unary h4, rd_nullary h3, rd_nullary h1, rd_nullary h2]
    exact flat_position _ _ h0 h1'
  constructor
  · have e32 : rd W (.of main_v32 : TRef sig lW) j = rd W (.of main_v30 : TRef sig lW) j >>> 32#64 := by
      rw [rd_binary h12, rd_unary h11, rd_nullary h10]
      exact shrui_host _ 32#64 (by decide) j
    rw [rd_unary h14]
    show (rd W (.of main_v32 : TRef sig lW) j).setWidth 32 = 0#32
    rw [e32, e30]
    exact flat_high _ (by omega)
  · rw [rd_unary h13]
    show (rd W (.of main_v30 : TRef sig lW) j).setWidth 32 = _
    rw [e30]
    exact flat_low _

/-- The generator's word at an entry. -/
theorem draw_words (hs : Solves W seedOps) (hc : Solves W counterOps) (hd : Solves W drawOps) (j : S32x1000000.Idx) :
    (rd W (.of main_v35_0 : TRef sig iW) j ^^^ rd W (.of main_v35_1 : TRef sig iW) j : BitVec 32) = wordAt ((j 0).val * 1000000 + (j 1).val) := by
  obtain ⟨e0, e1⟩ := seed_words hs
  obtain ⟨c0, c1⟩ := counter_words hc j
  have e := threefry_words hd e0 e1 j
  rw [c0, c1] at e
  exact congrArg (fun q : BitVec 32 × BitVec 32 => q.1 ^^^ q.2) e

end Cert.Sampler.Reference

end
-- ==== Proof.FirstMax.lean ====
/- The position of the first greatest entry: it is unique, it depends on the order of the entries alone, and adding noise to
   the logarithm of a softmax orders the entries as adding it to the logits does. -/
module

public import Idealize.ShloMosaic.PureOps.Ideal.Laws

@[expose] public section

noncomputable section

namespace Cert.Sampler

open Idealize.ShloMosaic
open scoped BigOperators

/-- `k` is the first of the positions below `n` at which `f` is greatest. -/
def FirstMax (n : ℕ) (f : ℕ → EReal) (k : ℕ) : Prop := k < n ∧ (∀ j < n, f j ≤ f k) ∧ ∀ j < k, f j < f k

theorem FirstMax.unique {n : ℕ} {f : ℕ → EReal} {k l : ℕ} (hk : FirstMax n f k) (hl : FirstMax n f l) : k = l := by
  rcases lt_trichotomy k l with h | h | h
  · exact absurd (hl.2.2 k h) (not_lt.2 (hk.2.1 l hl.1))
  · exact h
  · exact absurd (hk.2.2 l h) (not_lt.2 (hl.2.1 k hk.1))

/-- Two families in the same order have the same first greatest entry. -/
theorem FirstMax.of_order {n : ℕ} {f f' : ℕ → EReal} (h : ∀ i < n, ∀ j < n, f i < f j ↔ f' i < f' j) {k : ℕ} (hk : FirstMax n f k) :
    FirstMax n f' k :=
  ⟨hk.1, fun j hj => not_lt.1 fun hlt => not_lt.2 (hk.2.1 j hj) ((h k hk.1 j hj).2 hlt),
    fun j hj => (h j (hj.trans hk.1) k hk.1).1 (hk.2.2 j hj)⟩

/-- A family extended by `⊥` has its first greatest entry where the family has it. -/
theorem FirstMax.of_extended {n n' : ℕ} {f : ℕ → EReal} {k : ℕ} (hn : 0 < n) (hnn : n ≤ n') (hf : ∀ j, n ≤ j → f j = ⊥)
    (hk : FirstMax n' f k) : FirstMax n f k := by
  refine ⟨?_, fun j hj => hk.2.1 j (hj.trans_le hnn), hk.2.2⟩
  by_contra h
  have := hk.2.2 0 (hn.trans_le (not_lt.1 h))
  rw [hf k (not_lt.1 h)] at this
  exact not_lt_bot this

/-- One more entry: the first greatest position moves to it exactly when the entry is greater than the best so far. -/
theorem FirstMax.succ {n : ℕ} {f : ℕ → EReal} {k : ℕ} (hk : FirstMax n f k) : FirstMax (n + 1) f (if f k < f n then n else k) := by
  by_cases h : f k < f n
  · rw [if_pos h]
    refine ⟨n.lt_succ_self, fun j hj => ?_, fun j hj => (hk.2.1 j hj).trans_lt h⟩
    rcases Nat.lt_succ_iff_lt_or_eq.1 hj with hj | rfl
    · exact (hk.2.1 j hj).trans h.le
    · exact le_rfl
  · rw [if_neg h]
    refine ⟨hk.1.trans n.lt_succ_self, fun j hj => ?_, hk.2.2⟩
    rcases Nat.lt_succ_iff_lt_or_eq.1 hj with hj | rfl
    · exact hk.2.1 j hj
    · exact not_lt.1 h

theorem FirstMax.one (f : ℕ → EReal) : FirstMax 1 f 0 :=
  ⟨Nat.one_pos, fun j hj => by rw [Nat.lt_one_iff.1 hj], fun j hj => absurd hj (Nat.not_lt_zero j)⟩

/-- Positions laid out in `w` columns: the first greatest position of every column, and among the columns that reach the
    greatest of all the least such position, is the first greatest position. -/
theorem FirstMax.of_columns {w h : ℕ} {f : ℕ → EReal} (s : ℕ → ℕ) (hs : ∀ q < w, FirstMax h (fun t => f (t * w + q)) (s q)) (m : EReal)
    (hm : ∀ q < w, f (s q * w + q) ≤ m) (q : ℕ) (hq : q < w) (hqm : f (s q * w + q) = m)
    (hmin : ∀ q' < w, f (s q' * w + q') = m → s q * w + q ≤ s q' * w + q') : FirstMax (h * w) f (s q * w + q) := by
  have hw : 0 < w := (Nat.zero_le q).trans_lt hq
  have split : ∀ j < h * w, j / w < h ∧ j % w < w ∧ j / w * w + j % w = j := fun j hj =>
    ⟨(Nat.div_lt_iff_lt_mul hw).2 hj, Nat.mod_lt j hw, by rw [Nat.mul_comm]; exact Nat.div_add_mod j w⟩
  have hlt : s q * w + q < h * w := by
    have h1 : s q + 1 ≤ h := (hs q hq).1
    calc s q * w + q < s q * w + w := Nat.add_lt_add_left hq _
      _ = (s q + 1) * w := (Nat.succ_mul _ _).symm
      _ ≤ h * w := Nat.mul_le_mul_right w h1
  have hle : ∀ j < h * w, f j ≤ m := fun j hj => by
    obtain ⟨h1, h2, h3⟩ := split j hj
    have := (hs _ h2).2.1 _ h1
    simp only [h3] at this
    exact this.trans (hm _ h2)
  refine ⟨hlt, fun j hj => hqm ▸ hle j hj, fun j hj => ?_⟩
  obtain ⟨h1, h2, h3⟩ := split j (hj.trans hlt)
  rw [hqm]
  refine lt_of_le_of_ne (hle j (hj.trans hlt)) fun e => ?_
  have hcol : s (j % w) ≤ j / w := by
    by_contra hc
    have := (hs _ h2).2.2 _ (not_le.1 hc)
    simp only [h3, e] at this
    exact not_lt.2 (hm _ h2) this
  have hval : f (s (j % w) * w + j % w) = m := by
    refine le_antisymm (hm _ h2) ?_
    have := (hs _ h2).2.1 _ h1
    simp only [h3, e] at this
    exact this
  have h5 := hmin _ h2 hval
  have h6 : s (j % w) * w ≤ j / w * w := Nat.mul_le_mul_right w hcol
  omega

/-! ### The order under a softmax -/

theorem exp_coe (r : ℝ) : Ideal.exp (r : EReal) = ((Real.exp r : ℝ) : EReal) := rfl

theorem log_coe_pos {r : ℝ} (h : 0 < r) : Ideal.log (r : EReal) = ((Real.log r : ℝ) : EReal) := if_neg (not_le.2 h)

theorem log_coe_zero : Ideal.log ((0 : ℝ) : EReal) = ⊥ := if_pos le_rfl

theorem div_coe {a b : ℝ} (h : b ≠ 0) : Ideal.div (a : EReal) (b : EReal) = ((a / b : ℝ) : EReal) := by
  rw [Ideal.div, if_neg (by exact_mod_cast h), ← EReal.coe_inv, ← EReal.coe_mul, div_eq_mul_inv]

theorem div_one (x : EReal) : Ideal.div x 1 = x := by rw [Ideal.div, if_neg one_ne_zero, inv_one, mul_one]

theorem coe_sum {ι : Type*} (t : Finset ι) (e : ι → ℝ) : ((∑ j ∈ t, e j : ℝ) : EReal) = ∑ j ∈ t, (e j : EReal) := by
  classical
  induction t using Finset.induction_on with
  | empty => simp
  | insert a t ha ih => rw [Finset.sum_insert ha, Finset.sum_insert ha, EReal.coe_add, ih]

/-- A shift by a real number keeps the order. -/
theorem add_coe_lt_iff (x y : EReal) (r : ℝ) : x + (r : EReal) < y + (r : EReal) ↔ x < y := by
  refine ⟨fun h => ?_, fun h => EReal.add_lt_add_right_coe h r⟩
  have := EReal.add_lt_add_right_coe h (-r)
  simpa only [add_assoc, ← EReal.coe_add, add_neg_cancel, EReal.coe_zero, add_zero] using this

/-- Of logits below `+∞`, `m` the greatest: the logarithm of the softmax plus the noise orders the entries as the logits plus
    the noise do. With one finite logit the two differ by a constant; with none both are `-∞` throughout. -/
theorem softmax_order {ι : Type*} [Fintype ι] (x g : ι → EReal) (hx : ∀ j, x j < ⊤) (m : EReal)
    (hm : ∀ j, x j ≤ m) (hm' : m = ⊥ ∨ ∃ j, x j = m) (i j : ι) :
    Ideal.log (Ideal.div (Ideal.exp (x i - m)) (0 + ∑ k, Ideal.exp (x k - m))) + g i
        < Ideal.log (Ideal.div (Ideal.exp (x j - m)) (0 + ∑ k, Ideal.exp (x k - m))) + g j
      ↔ x i + g i < x j + g j := by
  by_cases hbot : m = ⊥
  · subst hbot
    have hxb : ∀ k, x k = ⊥ := fun k => le_bot_iff.1 (hm k)
    have e : Ideal.exp (⊥ - ⊥) = 0 := by rw [EReal.bot_sub]; rfl
    have z : Ideal.log (Ideal.div 0 0) = ⊥ := by rw [Ideal.div, if_pos rfl, if_neg (lt_irrefl _)]; rfl
    simp only [hxb, e, Finset.sum_const_zero, add_zero, z, EReal.bot_add, lt_irrefl]
  · obtain ⟨j₀, hj₀⟩ := hm'.resolve_left hbot
    obtain ⟨c, rfl⟩ : ∃ c : ℝ, m = c := ⟨m.toReal, (EReal.coe_toReal (hj₀ ▸ (hx j₀).ne) hbot).symm⟩
    have key : ∀ k, ∃ e : ℝ, 0 ≤ e ∧ Ideal.exp (x k - (c : EReal)) = (e : EReal) ∧
        ∀ S : ℝ, 0 < S → Ideal.log ((e / S : ℝ) : EReal) = x k + ((-c - Real.log S : ℝ) : EReal) := fun k => by
      by_cases hk : x k = ⊥
      · refine ⟨0, le_rfl, by rw [hk, EReal.bot_sub]; rfl, fun S _ => ?_⟩
        rw [zero_div, log_coe_zero, hk, EReal.bot_add]
      · obtain ⟨r, hr⟩ : ∃ r : ℝ, x k = r := ⟨(x k).toReal, (EReal.coe_toReal (hx k).ne hk).symm⟩
        refine ⟨Real.exp (r - c), (Real.exp_pos _).le, by rw [hr, ← EReal.coe_sub, exp_coe], fun S hS => ?_⟩
        rw [log_coe_pos (div_pos (Real.exp_pos _) hS), Real.log_div (Real.exp_pos _).ne' hS.ne', Real.log_exp, hr, ← EReal.coe_add]
        congr 1
        ring
    choose e he0 he hlog using key
    have hS : (0 : EReal) + ∑ k, Ideal.exp (x k - (c : EReal)) = ((∑ k, e k : ℝ) : EReal) := by
      rw [zero_add, coe_sum]
      exact Finset.sum_congr rfl fun k _ => he k
    have hpos : 0 < ∑ k, e k := by
      refine Finset.sum_pos' (fun k _ => he0 k) ⟨j₀, Finset.mem_univ _, ?_⟩
      have := he j₀
      rw [hj₀, ← EReal.coe_sub, sub_self, exp_coe, Real.exp_zero, EReal.coe_eq_coe_iff] at this
      rw [← this]
      exact one_pos
    have val : ∀ k, Ideal.log (Ideal.div (Ideal.exp (x k - (c : EReal))) (0 + ∑ k, Ideal.exp (x k - (c : EReal)))) + g k
        = (x k + g k) + ((-c - Real.log (∑ k, e k) : ℝ) : EReal) := fun k => by
      rw [hS, he k, div_coe hpos.ne', hlog k _ hpos, add_right_comm]
    rw [val i, val j, add_coe_lt_iff]

end Cert.Sampler

end
-- ==== Proof.Noise.lean ====
/- The constants of the two programs as extended reals, and the Gumbel noise of a word in their operations. -/
module

public import proofs.«01_k».proof.Proof.Lanes
public import proofs.«01_k».proof.Proof.FirstMax

@[expose] public section

noncomputable section

namespace Cert.Sampler

open Idealize.ShloMosaic

theorem one_value : Ideal.ofBits .f32 0x3F800000#32 = 1 := IdealRules.sign_bit.ideal_onePat .f32

theorem zero_value : Ideal.ofBits .f32 0x00000000#32 = 0 := Ideal.ofBits_zero_f32

theorem bot_value : Ideal.ofBits .f32 0xFF800000#32 = ⊥ := by
  simp [Ideal.ofBits, Ideal.ieee]

theorem top_value : Ideal.ofBits .f32 0x7F800000#32 = ⊤ := by
  simp [Ideal.ofBits, Ideal.ieee]

/-- The noise of a word as the reference writes it, with negations. -/
theorem noise_eq (w : BitVec 32) : noise (F := Ideal) w
    = -Ideal.log (-Ideal.log (max (Ideal.ofBits .f32 ((w >>> 9) ||| 1065353216#32) - Ideal.ofBits .f32 0x3F800000#32)
        (Ideal.ofBits .f32 0x00800000#32))) := by
  rw [← zero_sub, ← zero_sub (Ideal.log (max _ _)), ← zero_value]
  rfl

end Cert.Sampler

end
-- ==== Proof.RowDraw.lean ====
/- The kernel's last step: among the lanes that hold a row's greatest perturbed logit, the least position. -/
module

public import proofs.«01_k».proof.Proof.Noise
public import Idealize.ShloMosaic.Lib.Pipeline.Value

@[expose] public section

set_option maxRecDepth 16384

noncomputable section

namespace Cert.Sampler

open Cert.KernelIdeal Cert.KernelIdeal.Gen
open Idealize.ShloMosaic Idealize.ShloMosaic.TcCoe

/-- The lane of row `r` and column `q`. -/
def lane (r : Fin 32) (q : Fin 8192) : S32x8192.Idx := fun a => match a with
  | ⟨0, _⟩ => r
  | ⟨1, _⟩ => q

/-- The index of row `r` among the rows. -/
def row (r : Fin 32) : S32.Idx := fun a => match a with
  | ⟨0, _⟩ => r

theorem lane_eta (p : S32x8192.Idx) : lane (p 0) (p 1) = p := Shape.idx_ext₂ rfl rfl

/-- The least of a family of words, read as signed numbers, is one of them or the initial word, and it is below them all. -/
theorem fold_least {ι : Type*} (t : Finset ι) (g : ι → BitVec 32) (b : BitVec 32) :
    (t.fold IKind.minsi.op b g = b ∨ ∃ i ∈ t, t.fold IKind.minsi.op b g = g i)
      ∧ (t.fold IKind.minsi.op b g).toInt ≤ b.toInt ∧ ∀ i ∈ t, (t.fold IKind.minsi.op b g).toInt ≤ (g i).toInt := by
  classical
  have op : ∀ x y : BitVec 32, IKind.minsi.op x y = if x.toInt < y.toInt then x else y := fun x y => by
    show (if x.slt y then x else y) = _
    simp only [BitVec.slt, decide_eq_true_eq]
  induction t using Finset.induction_on with
  | empty => exact ⟨.inl rfl, le_rfl, fun i hi => absurd hi (Finset.notMem_empty i)⟩
  | insert a t ha ih =>
    rw [Finset.fold_insert ha, op]
    obtain ⟨h1, h2, h3⟩ := ih
    split
    · rename_i hlt
      refine ⟨.inr ⟨a, Finset.mem_insert_self a t, rfl⟩, (hlt.trans_le h2).le, fun i hi => ?_⟩
      rcases Finset.mem_insert.1 hi with rfl | hi
      · exact le_rfl
      · exact (hlt.trans_le (h3 i hi)).le
    · rename_i hlt
      refine ⟨h1.imp id fun ⟨i, hi, e⟩ => ⟨i, Finset.mem_insert_of_mem hi, e⟩, h2, fun i hi => ?_⟩
      rcases Finset.mem_insert.1 hi with rfl | hi
      · exact not_lt.1 hlt
      · exact h3 i hi

theorem select_ofBool {α : Type} (c : Prop) [Decidable c] (a b : α) : Scalar.select (BitVec.ofBool (decide c)) a b = if c then a else b := by
  by_cases h : c
  · rw [if_pos h, decide_eq_true h]; rfl
  · rw [if_neg h, decide_eq_false h]; rfl

/-- The word of a small number, read as a signed one. -/
theorem small_toInt {n : ℕ} (h : n < 2147483648) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- The greatest entry of row `r`. -/
def rowMax (A : Vec Ideal S32x8192 .f32) (r : Fin 32) : EReal := (Finset.univ : Finset (Fin 8192)).fold max ⊥ fun q => A (lane r q)

/-- Its place in the column of row maxima. -/
theorem rowMax_apply (A : FVec Ideal S32x8192 .f32) (k : S32x1.Idx) :
    shapeCast S32x1 (multiReduction (F := Ideal) .maximumf [1] S32 A 0xFF800000#32 reduces_S32x8192_S32 (.inl rfl) rfl : FVec Ideal S32 .f32)
      shapeCasts_S32_S32x1 k = rowMax A (k 0) := by
  rw [shapeCast_apply _ _ k (row (k 0)) (by
    have h1 : (k 1).val < 1 := (k 1).isLt
    rw [Shape.rowMajor_val_one, Shape.rowMajor_val_two]
    show (k 0).val = (k 0).val * 1 + (k 1).val
    omega)]
  refine (Ideal.multiReduction_maximumf_single A _ reduces_S32x8192_S32 (.inl rfl) rfl _).trans ?_
  show Finset.fold max (Ideal.ofBits .f32 0xFF800000#32) _ _ = _
  rw [bot_value]
  refine congrArg (fun g => Finset.fold max ⊥ g Finset.univ) (funext fun q => congrArg A ?_)
  exact Shape.idx_ext₂ rfl rfl

/-- The last step's result for a row. -/
theorem row_fold (A : Vec Ideal S32x8192 .f32) (S : Vec Ideal S32x8192 .i32) (j : S32x1.Idx) :
    k0_pay2 A S j = (Finset.univ : Finset (Fin 8192)).fold IKind.minsi.op 2147483647#32 fun q =>
      if A (lane (j 0) q) = rowMax A (j 0) then S (lane (j 0) q) * 8192#32 + BitVec.ofNat 32 q.val else 2147483647#32 := by
  unfold k0_pay2
  rw [shapeCast_apply _ _ j (row (j 0)) (by
    have h1 : (j 1).val < 1 := (j 1).isLt
    rw [Shape.rowMajor_val_one, Shape.rowMajor_val_two]
    show (j 0).val = (j 0).val * 1 + (j 1).val
    omega)]
  refine (multiReductionI_eq_fold .minsi _ _ reduces_S32x8192_S32 rfl _).trans ?_
  rw [Shape.Reduces.fold_filter_drop_single]
  refine congrArg (fun g => Finset.fold IKind.minsi.op 2147483647#32 g Finset.univ) (funext fun q => ?_)
  have hl : reduces_S32x8192_S32.lift (row (j 0)) q = lane (j 0) q := Shape.idx_ext₂ rfl rfl
  show Scalar.select (FloatOps.cmpf (F := Ideal) (φ := .f32) .oeq (A _) (broadcastTo S32x8192 _ broadcasts_S32x1_S32x8192 _))
    (S _ * 8192#32 + iota .tc S32x8192 32 [1] iota_S32x8192_d1_w32 _) 2147483647#32 = _
  rw [hl, iota_single_apply, broadcastTo_apply _ _ (lane (j 0) q) j (fun a => by
    match a with
    | ⟨0, _⟩ => rfl
    | ⟨1, _⟩ =>
      have h1 : (j 1).val < 1 := (j 1).isLt
      show (j 1).val = 0
      omega), rowMax_apply, Ideal.cmpf_def]
  exact select_ofBool _ _ _

/-- If each lane of the row holds its column's greatest entry, and the first step that reaches it, the last step returns the
    row's first greatest position. -/
theorem row_first (A : Vec Ideal S32x8192 .f32) (S : Vec Ideal S32x8192 .i32) (j : S32x1.Idx) (f : ℕ → EReal) (s : ℕ → ℕ)
    (hs : ∀ q < 8192, FirstMax 123 (fun t => f (t * 8192 + q)) (s q))
    (hA : ∀ q : Fin 8192, A (lane (j 0) q) = f (s q.val * 8192 + q.val))
    (hS : ∀ q : Fin 8192, S (lane (j 0) q) = BitVec.ofNat 32 (s q.val)) :
    ∃ k, FirstMax (123 * 8192) f k ∧ k0_pay2 A S j = BitVec.ofNat 32 k := by
  have hm : ∀ q < 8192, f (s q * 8192 + q) ≤ rowMax A (j 0) := fun q hq => by
    rw [← hA ⟨q, hq⟩]
    exact Finset.le_fold_max _ |>.2 (.inr ⟨⟨q, hq⟩, Finset.mem_univ _, le_rfl⟩)
  have hex : ∃ q : Fin 8192, A (lane (j 0) q) = rowMax A (j 0) := by
    rcases (Finset.le_fold_max _).1 (le_refl (rowMax A (j 0))) with h | ⟨q, _, h⟩
    · refine ⟨0, le_antisymm ?_ (h.trans bot_le)⟩
      rw [hA 0]; exact hm _ (by decide)
    · refine ⟨q, le_antisymm ?_ h⟩
      rw [hA q]; exact hm _ q.isLt
  have hword : ∀ q : Fin 8192, S (lane (j 0) q) * 8192#32 + BitVec.ofNat 32 q.val = BitVec.ofNat 32 (s q.val * 8192 + q.val) := fun q => by
    rw [hS q]
    apply BitVec.eq_of_toNat_eq
    simp
  have hsmall : ∀ q : Fin 8192, s q.val * 8192 + q.val < 2147483647 := fun q => by
    have h1 : s q.val < 123 := (hs q.val q.isLt).1
    have := q.isLt
    omega
  rw [row_fold]
  simp only [hword]
  obtain ⟨h1, -, h3⟩ := fold_least Finset.univ (fun q : Fin 8192 => if A (lane (j 0) q) = rowMax A (j 0) then
    BitVec.ofNat 32 (s q.val * 8192 + q.val) else 2147483647#32) 2147483647#32
  generalize hw : Finset.fold IKind.minsi.op 2147483647#32 (fun q : Fin 8192 => if A (lane (j 0) q) = rowMax A (j 0) then
    BitVec.ofNat 32 (s q.val * 8192 + q.val) else 2147483647#32) Finset.univ = w at *
  have hle : ∀ q : Fin 8192, A (lane (j 0) q) = rowMax A (j 0) → w.toInt ≤ ((s q.val * 8192 + q.val : ℕ) : ℤ) := fun q hq => by
    have := h3 q (Finset.mem_univ q)
    rw [if_pos hq, small_toInt (by have := hsmall q; omega)] at this
    exact this
  have htop : w ≠ 2147483647#32 := fun e => by
    obtain ⟨q, hq⟩ := hex
    have h := hle q hq
    have := hsmall q
    rw [e, show (2147483647#32 : BitVec 32).toInt = 2147483647 from by decide] at h
    omega
  obtain ⟨q, -, hq⟩ := h1.resolve_left htop
  by_cases hqm : A (lane (j 0) q) = rowMax A (j 0)
  · rw [if_pos hqm] at hq
    refine ⟨s q.val * 8192 + q.val, FirstMax.of_columns s hs (rowMax A (j 0)) hm q.val q.isLt ?_ fun q' hq' h => ?_, hq⟩
    · rw [← hA q]; exact hqm
    · have h := hle ⟨q', hq'⟩ (by rw [hA]; exact h)
      rw [hq, small_toInt (by have := hsmall q; omega)] at h
      exact_mod_cast h
  · rw [if_neg hqm] at hq
    exact absurd hq htop

end Cert.Sampler

end
-- ==== Proof.KernelValue.lean ====
/- What the kernel leaves in its result: for each row the first position of the greatest perturbed logit. -/
module

public import proofs.«01_k».proof.Proof.Launch
public import proofs.«01_k».proof.Proof.Words
public import proofs.«01_k».proof.Proof.RowDraw

@[expose] public section

set_option maxRecDepth 16384

noncomputable section

namespace Cert.Sampler

open Cert.KernelIdeal Cert.KernelIdeal.Gen
open Idealize.ShloMosaic Idealize.ShloMosaic.TcCoe Idealize.ShloMosaic.Pipeline Idealize.SL.Sem

/-- The entry of row `r` at position `k`. -/
def entry (r : Fin 32) (k : Fin 1000000) : S32x1000000.Idx := fun a => match a with
  | ⟨0, _⟩ => r
  | ⟨1, _⟩ => k

/-- The perturbed logits of row `r`, `⊥` past the vocabulary. -/
def total (x : S32x1000000.Idx → EReal) (r : Fin 32) (k : ℕ) : EReal :=
  if h : k < 1000000 then x (entry r ⟨k, h⟩) + noise (F := Ideal) (wordAt (r.val * 1000000 + k)) else ⊥

variable (m : (ℓ : Loc nD τ sig) → Buf (Elt Ideal) ℓ) (c : Dev nD)

/-- The logits as the kernel is given them. -/
abbrev logits : S32x1000000.Idx → EReal := m ((c.tc : Thread nD τ).loc main_arg0)

/-- The block at step `t` holds the logits of its columns. -/
theorem block_apply (t : Fin cfg0.N) (p : S32x8192.Idx) (h : t.val * 8192 + (p 1).val < 1000000) :
    block (F := Ideal) m c t p = logits m c (entry (p 0) ⟨t.val * 8192 + (p 1).val, h⟩) := by
  have ht : t.val < 123 := Nat.lt_of_lt_of_eq t.isLt N_0
  have hm := (moved_iff (grid0.coords t) p).mpr (by rw [coord_val]; exact h)
  unfold block Pipeline.Window.fill
  rw [dif_pos hm]
  show m ((c.tc : Thread nD τ).loc main_arg0) ((win0_0.rect t).emb _) = _
  refine congrArg (m ((c.tc : Thread nD τ).loc main_arg0)) (Shape.idx_ext₂ ?_ ?_)
  · refine (win0_0.rect_emb_val t _ 0).trans ?_
    show 0 * 32 + (p 0).val = (p 0).val
    omega
  · refine (win0_0.rect_emb_val t _ 1).trans ?_
    show (BitVec.ofNat 32 (grid0.coords t 0).val).toNat * 8192 + (p 1).val = t.val * 8192 + (p 1).val
    rw [coord_val, BitVec.toNat_ofNat, Nat.mod_eq_of_lt (by omega)]

/-- The word a lane draws at step `t` is the one of its logit. -/
theorem laneWord_count (t : Fin cfg0.N) (p : S32x8192.Idx) :
    laneWord (F := Ideal) (grid0.coords t) k0_pay5 p = wordAt ((p 0).val * 1000000 + (t.val * 8192 + (p 1).val)) := by
  have e : k0_pay5 p = BitVec.ofNat 32 (p 0).val * 1000000#32 + BitVec.ofNat 32 (p 1).val + 42#32 := by
    unfold k0_pay5
    rw [shapeCast_self]
    show iota .tc S32x8192 32 [0] iota_S32x8192_d0_w32 p * 1000000#32 + iota .tc S32x8192 32 [1] iota_S32x8192_d1_w32 p + 42#32 = _
    rw [iota_single_apply, iota_single_apply]
  have e' : k0_pay5 p + stepWord (grid0.coords t) * 8192#32
      = BitVec.ofNat 32 ((p 0).val * 1000000 + (t.val * 8192 + (p 1).val)) + 42#32 := by
    rw [e, stepWord, coord_val]
    apply BitVec.eq_of_toNat_eq
    simp only [BitVec.toNat_add, BitVec.toNat_mul, BitVec.toNat_ofNat]
    omega
  rw [laneWord_eq, e', wordAt]

/-- A step's perturbed logit at a lane. -/
theorem perturbed_total (t : Fin cfg0.N) (p : S32x8192.Idx) :
    perturbed (F := Ideal) (grid0.coords t) (block m c t) k0_pay5 p = total (logits m c) (p 0) (t.val * 8192 + (p 1).val) := by
  rw [perturbed_apply, coord_val]
  unfold total
  by_cases h : t.val * 8192 + (p 1).val < 1000000
  · rw [if_pos h, dif_pos h, block_apply m c t p h, laneWord_count]
    rfl
  · rw [if_neg h, dif_neg h]
    exact bot_value

/-- Before step `n + 1` each lane holds the greatest perturbed logit so far, and the first step that reached it. -/
theorem lane_first (p : S32x8192.Idx) : ∀ (n : ℕ) (h : n + 1 ≤ cfg0.N), ∃ s,
    FirstMax (n + 1) (fun t => total (logits m c) (p 0) (t * 8192 + (p 1).val)) s
      ∧ best (F := Ideal) m c (n + 1) h p = total (logits m c) (p 0) (s * 8192 + (p 1).val)
      ∧ step (F := Ideal) m c (n + 1) h p = BitVec.ofNat 32 s := by
  have next : ∀ (n : ℕ) (h : n + 1 ≤ cfg0.N),
      best (F := Ideal) m c (n + 1) h p = (if best (F := Ideal) m c n (Nat.le_of_lt h) p < total (logits m c) (p 0) (n * 8192 + (p 1).val)
        then total (logits m c) (p 0) (n * 8192 + (p 1).val) else best (F := Ideal) m c n (Nat.le_of_lt h) p)
      ∧ step (F := Ideal) m c (n + 1) h p = (if best (F := Ideal) m c n (Nat.le_of_lt h) p < total (logits m c) (p 0) (n * 8192 + (p 1).val)
        then BitVec.ofNat 32 n else step (F := Ideal) m c n (Nat.le_of_lt h) p) := fun n h => by
    constructor
    · rw [best, bestNext_apply, perturbed_total, Ideal.cmpf_def]
      exact select_ofBool _ _ _
    · rw [step, stepNext_apply, perturbed_total, Ideal.cmpf_def, stepWord, coord_val]
      exact select_ofBool _ _ _
  intro n
  induction n with
  | zero =>
    intro h
    have hb : best (F := Ideal) m c 0 (Nat.le_of_lt h) p = ⊥ := by
      rw [best, k0_pay3, shapeCast_self]
      exact bot_value
    have hs : step (F := Ideal) m c 0 (Nat.le_of_lt h) p = 0#32 := by
      rw [step, k0_pay4, shapeCast_self]
      rfl
    obtain ⟨h1, h2⟩ := next 0 h
    refine ⟨0, FirstMax.one _, h1.trans ?_, h2.trans ?_⟩
    · rw [hb]
      split
      · rfl
      · rename_i hn
        exact (not_bot_lt_iff.1 hn).symm
    · rw [hs]
      split <;> rfl
  | succ n ih =>
    intro h
    obtain ⟨s, hf, hb, hs⟩ := ih (Nat.le_of_lt h)
    obtain ⟨h1, h2⟩ := next (n + 1) h
    refine ⟨_, hf.succ, h1.trans ?_, h2.trans ?_⟩
    · rw [hb]; split <;> rfl
    · rw [hb, hs]; split <;> rfl

/-- The tokens drawn: in each row the first position of the greatest perturbed logit. -/
theorem drawn_first (j : S32x1.Idx) : ∃ k, FirstMax 1000000 (total (logits m c) (j 0)) k ∧ drawn (F := Ideal) m c j = BitVec.ofNat 32 k := by
  have all : ∀ q : ℕ, ∃ s, ∀ h : q < 8192, FirstMax 123 (fun t => total (logits m c) (j 0) (t * 8192 + q)) s
      ∧ best (F := Ideal) m c cfg0.N le_rfl (lane (j 0) ⟨q, h⟩) = total (logits m c) (j 0) (s * 8192 + q)
      ∧ step (F := Ideal) m c cfg0.N le_rfl (lane (j 0) ⟨q, h⟩) = BitVec.ofNat 32 s := fun q => by
    by_cases h : q < 8192
    · obtain ⟨s, hs⟩ := lane_first m c (lane (j 0) ⟨q, h⟩) 122 (Nat.le_of_eq N_0.symm)
      have go : ∀ (n : ℕ) (hn : n ≤ cfg0.N), n = 123 → best (F := Ideal) m c n hn = best (F := Ideal) m c cfg0.N le_rfl
          ∧ step (F := Ideal) m c n hn = step (F := Ideal) m c cfg0.N le_rfl := fun n hn e => by
        obtain rfl : n = cfg0.N := e.trans N_0.symm
        exact ⟨rfl, rfl⟩
      obtain ⟨g1, g2⟩ := go (122 + 1) (Nat.le_of_eq N_0.symm) rfl
      rw [g1, g2] at hs
      exact ⟨s, fun _ => hs⟩
    · exact ⟨0, fun h' => absurd h' h⟩
  choose s hs using all
  obtain ⟨k, hk, e⟩ := row_first (best (F := Ideal) m c cfg0.N le_rfl) (step (F := Ideal) m c cfg0.N le_rfl) j (total (logits m c) (j 0)) s
    (fun q h => (hs q h).1) (fun q => (hs q.val q.isLt).2.1) (fun q => (hs q.val q.isLt).2.2)
  exact ⟨k, hk.of_extended (by decide) (by decide) (fun i hi => dif_neg (not_lt.2 hi)), e⟩

end Cert.Sampler

end
-- ==== Proof.ArgFold.lean ====
/- The reference's argument maximum at the ideal instance: a row's first greatest position. -/
module

public import proofs.«01_k».proof.Proof.RefOps
public import proofs.«01_k».proof.Proof.KernelValue
public import Idealize.ShloMosaic.PureOps.Ideal.Laws

@[expose] public section

set_option maxRecDepth 16384

noncomputable section

namespace Cert.Sampler.Reference

open Cert.ReferenceIdeal
open Idealize.ShloMosaic Idealize.ShloMosaic.TcCoe

attribute [local instance] Cert.ReferenceIdeal.Gen.facts

/-- A pair of a value and a position that comes before another or is it: of greater value, or of the same value and no later. -/
def Leads (r p : EReal × BitVec 32) : Prop := p.1 < r.1 ∨ (p.1 = r.1 ∧ r.2.toInt ≤ p.2.toInt)

theorem Leads.refl (r : EReal × BitVec 32) : Leads r r := .inr ⟨rfl, le_rfl⟩

theorem Leads.trans {a b c : EReal × BitVec 32} (h : Leads a b) (h' : Leads b c) : Leads a c := by
  rcases h with h | ⟨e, h⟩
  · rcases h' with h' | ⟨e', -⟩
    · exact .inl (h'.trans h)
    · exact .inl (e'.trans_lt h)
  · rcases h' with h' | ⟨e', h'⟩
    · exact .inl (h'.trans_eq e)
    · exact .inr ⟨e'.trans e, h.trans h'⟩

theorem select_or {α : Type} (p : Bool) (u v : α) :
    Scalar.select (BitVec.ofBool p ||| BitVec.ofBool false) u v = if p = true then u else v := by
  cases p <;> rfl

theorem select_or_and {α : Type} (p q s : Bool) (u v : α) :
    Scalar.select ((BitVec.ofBool p ||| BitVec.ofBool false) ||| (BitVec.ofBool q &&& BitVec.ofBool s)) u v
      = if p = true ∨ (q = true ∧ s = true) then u else v := by
  cases p <;> cases q <;> cases s <;> rfl

/-- One step of the fold keeps the pair that leads. -/
theorem reducer_value (a b : EReal × BitVec 32) : reducer_argmax_f32_i32 (F := Ideal) a b
    = (if b.1 < a.1 then a.1 else b.1, if b.1 < a.1 ∨ (a.1 = b.1 ∧ a.2.toInt < b.2.toInt) then a.2 else b.2) := by
  have hs : a.2.slt b.2 = decide (a.2.toInt < b.2.toInt) := rfl
  have e : reducer_argmax_f32_i32 (F := Ideal) a b
      = (Scalar.select (BitVec.ofBool (decide (b.1 < a.1)) ||| BitVec.ofBool (decide (a.1 ≠ a.1))) a.1 b.1,
        Scalar.select ((BitVec.ofBool (decide (b.1 < a.1)) ||| BitVec.ofBool (decide (a.1 ≠ a.1)))
          ||| (BitVec.ofBool (decide (a.1 = b.1)) &&& BitVec.ofBool (decide (a.2.toInt < b.2.toInt)))) a.2 b.2) := rfl
  rw [e, show decide (a.1 ≠ a.1) = false by simp]
  refine Prod.ext ((select_or _ _ _).trans ?_) ((select_or_and _ _ _ _ _).trans ?_)
  · simp only [decide_eq_true_eq]
  · simp only [decide_eq_true_eq]

/-- One step keeps one of its two pairs, and it leads both. -/
theorem reducer_leads (a b : EReal × BitVec 32) :
    (reducer_argmax_f32_i32 (F := Ideal) a b = a ∨ reducer_argmax_f32_i32 (F := Ideal) a b = b)
      ∧ Leads (reducer_argmax_f32_i32 (F := Ideal) a b) a ∧ Leads (reducer_argmax_f32_i32 (F := Ideal) a b) b := by
  rw [reducer_value]
  rcases lt_trichotomy b.1 a.1 with h | h | h
  · rw [if_pos h, if_pos (.inl h)]
    exact ⟨.inl rfl, .refl _, .inl h⟩
  · rw [if_neg (not_lt.2 h.ge)]
    by_cases h2 : a.2.toInt < b.2.toInt
    · rw [if_pos (.inr ⟨h.symm, h2⟩)]
      exact ⟨.inl (Prod.ext h rfl), .inr ⟨h.symm, le_rfl⟩, .inr ⟨rfl, h2.le⟩⟩
    · rw [if_neg (by rintro (h3 | h3); exacts [absurd h3 (not_lt.2 h.ge), h2 h3.2])]
      exact ⟨.inr rfl, .inr ⟨h.symm, not_lt.1 h2⟩, .refl _⟩
  · rw [if_neg (not_lt.2 h.le), if_neg (by rintro (h3 | h3); exacts [absurd h3 (not_lt.2 h.le), h.ne h3.1])]
    exact ⟨.inr rfl, .inl h, .refl _⟩

/-- The fold over a list ends at one of its pairs, or at the first one, and that leads them all. -/
theorem fold_leads (L : List (EReal × BitVec 32)) : ∀ init : EReal × BitVec 32,
    (L.foldl (reducer_argmax_f32_i32 (F := Ideal)) init = init ∨ L.foldl (reducer_argmax_f32_i32 (F := Ideal)) init ∈ L)
      ∧ Leads (L.foldl (reducer_argmax_f32_i32 (F := Ideal)) init) init
      ∧ ∀ p ∈ L, Leads (L.foldl (reducer_argmax_f32_i32 (F := Ideal)) init) p := by
  induction L with
  | nil => exact fun init => ⟨.inl rfl, .refl _, fun p hp => absurd hp List.not_mem_nil⟩
  | cons a L ih =>
    intro init
    obtain ⟨h1, h2, h3⟩ := ih (reducer_argmax_f32_i32 (F := Ideal) init a)
    obtain ⟨g1, g2, g3⟩ := reducer_leads init a
    rw [List.foldl_cons]
    refine ⟨?_, h2.trans g2, fun p hp => ?_⟩
    · rcases h1 with h1 | h1
      · rcases g1 with g1 | g1
        · exact .inl (h1.trans g1)
        · exact .inr (List.mem_cons.2 (.inl (h1.trans g1)))
      · exact .inr (List.mem_cons.2 (.inr h1))
    · rcases List.mem_cons.1 hp with rfl | hp
      · exact h2.trans g3
      · exact h3 p hp

/-- A row of a matrix as a family, `⊥` past the vocabulary. -/
def family (x : S32x1000000.Idx → EReal) (r : Fin 32) (k : ℕ) : EReal := if h : k < 1000000 then x (entry r ⟨k, h⟩) else ⊥

theorem family_of_lt (x : S32x1000000.Idx → EReal) (r : Fin 32) {k : ℕ} (h : k < 1000000) : family x r k = x (entry r ⟨k, h⟩) := dif_pos h

/-- The rows are reduced along the second axis. -/
theorem reduces_rows : S32x1000000.Reduces [1] S32 := by decide

theorem lift_rows (r : Fin 32) (k : Fin 1000000) : reduces_rows.lift (row r) k = entry r k := Shape.idx_ext₂ rfl rfl

/-- The pairs folded for a row are its entries with their positions. -/
theorem mem_fiber (x : S32x1000000.Idx → EReal) (y : S32x1000000.Idx → BitVec 32) (r : Fin 32) (p : EReal × BitVec 32) :
    p ∈ Host.argReduceFiber x y Facts₀.reducesTo_S32x1000000_S32_d1 (row r) ↔ ∃ k, p = (x (entry r k), y (entry r k)) := by
  unfold Host.argReduceFiber
  rw [List.mem_map]
  constructor
  · rintro ⟨n, hn, rfl⟩
    have hd := of_decide_eq_true (List.mem_filter.1 hn).2
    rw [Shape.ReducesTo.drop_eq_drop _ reduces_rows] at hd
    have e := reduces_rows.lift_drop (S32x1000000.rowMajor.symm n)
    rw [hd] at e
    refine ⟨(S32x1000000.rowMajor.symm n) 1, ?_⟩
    have e' := (lift_rows r _).symm.trans e
    exact Prod.ext (congrArg x e'.symm) (congrArg y e'.symm)
  · rintro ⟨k, rfl⟩
    refine ⟨S32x1000000.rowMajor (entry r k), List.mem_filter.2 ⟨List.mem_finRange _, decide_eq_true ?_⟩, ?_⟩
    · rw [Equiv.symm_apply_apply, Shape.ReducesTo.drop_eq_drop _ reduces_rows]
      exact (congrArg _ (lift_rows r k).symm).trans (reduces_rows.drop_lift (row r) k)
    · rw [Equiv.symm_apply_apply]

/-- The argument maximum of a row is its first greatest position. -/
theorem argmax_first (x : S32x1000000.Idx → EReal) (r : Fin 32) : ∃ k, FirstMax 1000000 (family x r) k
    ∧ (Host.argReduce (reducer_argmax_f32_i32 (F := Ideal)) x (iotaInDim S32x1000000 32 1) (constant (F := Ideal) S_ .f32 0xFF800000#32)
        (constantI S_ 32 0#32) Facts₀.reducesTo_S32x1000000_S32_d1 Facts₀.h_S_ (row r)).2 = BitVec.ofNat 32 k := by
  rw [Ideal.argReduce_eq_reduce2, Host.reduce2_eq_foldl_fiber]
  obtain ⟨h1, -, h3⟩ := fold_leads (Host.argReduceFiber x (iotaInDim S32x1000000 32 1) Facts₀.reducesTo_S32x1000000_S32_d1 (row r)) (⊥, 0#32)
  have e : (constant (F := Ideal) S_ .f32 0xFF800000#32 (Shape.Idx.first Facts₀.h_S_), constantI S_ 32 0#32 (Shape.Idx.first Facts₀.h_S_))
      = ((⊥, 0#32) : EReal × BitVec 32) := Prod.ext bot_value rfl
  rw [e]
  generalize List.foldl (reducer_argmax_f32_i32 (F := Ideal)) (⊥, 0#32) _ = R at h1 h3 ⊢
  have lead : ∀ k (h : k < 1000000), Leads R (x (entry r ⟨k, h⟩), BitVec.ofNat 32 k) := fun k h => h3 _ ((mem_fiber x _ r _).2 ⟨⟨k, h⟩, rfl⟩)
  have key : ∀ k (h : k < 1000000), R = (x (entry r ⟨k, h⟩), BitVec.ofNat 32 k) → FirstMax 1000000 (family x r) k := fun k h hR => by
    refine ⟨h, fun j hj => ?_, fun j hj => ?_⟩
    · rw [family_of_lt x r h, family_of_lt x r hj]
      rcases lead j hj with g | ⟨g, -⟩ <;> rw [hR] at g
      · exact g.le
      · exact g.le
    · have hj' := hj.trans h
      rw [family_of_lt x r h, family_of_lt x r hj']
      rcases lead j hj' with g | ⟨-, g⟩ <;> rw [hR] at g
      · exact g
      · have g' : (BitVec.ofNat 32 k).toInt ≤ (BitVec.ofNat 32 j).toInt := g
        rw [small_toInt (by omega), small_toInt (by omega)] at g'
        omega
  rcases h1 with h1 | h1
  · refine ⟨0, key 0 (by omega) ?_, by rw [h1]⟩
    rw [h1]
    refine Prod.ext ?_ rfl
    rcases lead 0 (by omega) with g | ⟨g, -⟩ <;> rw [h1] at g
    · exact absurd g not_lt_bot
    · exact g.symm
  · obtain ⟨k, hk⟩ := (mem_fiber x _ r _).1 h1
    exact ⟨k.val, key k.val k.isLt hk, by rw [hk]; rfl⟩

end Cert.Sampler.Reference

end
-- ==== Proof.RefRead.lean ====
/- What the reference returns at the ideal instance: each row's first position of the greatest perturbed logit. -/
module

public import proofs.«01_k».proof.Proof.RefWords
public import proofs.«01_k».proof.Proof.ArgFold

@[expose] public section

set_option maxRecDepth 16384

noncomputable section

namespace Cert.Sampler.Reference

open Cert.ReferenceIdeal
open Idealize.ShloMosaic Idealize.ShloMosaic.TcCoe Idealize.ShloMosaic.StableHlo

attribute [local instance] Cert.ReferenceIdeal.Gen.facts

variable {W : Valuation τ sig (Elt Ideal)}

/-- The logits as the reference reads them. -/
abbrev given (W : Valuation τ sig (Elt Ideal)) : S32x1000000.Idx → EReal := rd W (.of main_arg0 : TRef sig fW)

/-- The noise at an entry, from the generator's words. -/
theorem noise_read (h : Solves W noiseOps) (j : S32x1000000.Idx) : (rd W (.of main_v49 : TRef sig fW) j : EReal)
    = noise (F := Ideal) (rd W (.of main_v35_0 : TRef sig iW) j ^^^ rd W (.of main_v35_1 : TRef sig iW) j) := by
  simp only [noiseOps, solves_cons] at h
  obtain ⟨h1, h2, h3, h4, h5, h6, h7, h8, h9, h10, h11, h12, h13, h14, h15, h16, h17, h18, -⟩ := h
  have e38 : rd W (.of main_v38 : TRef sig iW) j = rd W (.of main_v36 : TRef sig iW) j >>> 9 := by
    rw [rd_binary h4, rd_unary h3, rd_nullary h2]
    exact shrui_host _ 9#32 (by decide) j
  have e40 : rd W (.of main_v40 : TRef sig iW) j = rd W (.of main_v38 : TRef sig iW) j ||| 1065353216#32 := by
    rw [rd_binary h7, rd_unary h6, rd_nullary h5]
    rfl
  have e36 : rd W (.of main_v36 : TRef sig iW) j
      = rd W (.of main_v35_0 : TRef sig iW) j ^^^ rd W (.of main_v35_1 : TRef sig iW) j := congrFun (rd_binary h1) j
  have e49 : (rd W (.of main_v49 : TRef sig fW) j : EReal)
      = -Ideal.log (-Ideal.log (max (Ideal.ofBits .f32 (rd W (.of main_v40 : TRef sig iW) j) - Ideal.ofBits .f32 0x3F800000#32)
        (Ideal.ofBits .f32 0x00800000#32))) := by
    rw [rd_unary h18, rd_unary h17, rd_unary h16, rd_unary h15, rd_binary h14, rd_unary h13, rd_nullary h12, rd_binary h11, rd_unary h10,
      rd_nullary h9, rd_unary h8]
    rfl
  rw [e49, noise_eq, e40, e38, e36]

/-- A vector of the rows laid along every row. -/
theorem along_rows {α : Type} (v : S32.Idx → α) (r : Fin 32) (k : Fin 1000000) :
    broadcastInDim S32x1000000 ![0, 1] Facts₀.bcast_S32x1_S32x1000000_0_1 (broadcastInDim S32x1 ![0] Facts₀.bcast_S32_S32x1_0 v) (entry r k)
      = v (row r) := by
  let c : S32x1.Idx := fun a => match a with
    | ⟨0, _⟩ => r
    | ⟨1, _⟩ => (0 : Fin 1)
  refine (broadcastInDim_apply _ _ _ (entry r k) c fun a => ?_).trans (broadcastInDim_apply _ _ v c (row r) fun a => ?_)
  · match a with
    | ⟨0, _⟩ => rfl
    | ⟨1, _⟩ => rfl
  · match a with
    | ⟨0, _⟩ => rfl

/-- The exponential of the difference from a row's value. -/
theorem exp_rows (x : FVec Ideal S32x1000000 .f32) (v : FVec Ideal S32 .f32) (r : Fin 32) (k : Fin 1000000) :
    (Host.exp (subf x (broadcastInDim S32x1000000 ![0, 1] Facts₀.bcast_S32x1_S32x1000000_0_1
      (broadcastInDim S32x1 ![0] Facts₀.bcast_S32_S32x1_0 v))) (entry r k) : EReal) = Ideal.exp ((x (entry r k) : EReal) - v (row r)) :=
  congrArg (fun t : EReal => Ideal.exp ((x (entry r k) : EReal) - t)) (along_rows v r k)

/-- The quotient by a row's value. -/
theorem div_rows (x : FVec Ideal S32x1000000 .f32) (v : FVec Ideal S32 .f32) (r : Fin 32) (k : Fin 1000000) :
    (Host.divf x (broadcastInDim S32x1000000 ![0, 1] Facts₀.bcast_S32x1_S32x1000000_0_1
      (broadcastInDim S32x1 ![0] Facts₀.bcast_S32_S32x1_0 v)) (entry r k) : EReal) = Ideal.div (x (entry r k)) (v (row r)) :=
  congrArg (fun t : EReal => Ideal.div (x (entry r k)) t) (along_rows v r k)

/-- The sum of a row. -/
theorem sum_rows (x : FVec Ideal S32x1000000 .f32) (r : Fin 32) :
    Host.reduceAdd x (constant (F := Ideal) S_ .f32 0x00000000#32) Facts₀.reducesTo_S32x1000000_S32_d1 Facts₀.h_S_ (row r)
      = (0 + ∑ k, (x (entry r k) : EReal) : EReal) := by
  show Ideal.hostReduceAdd Facts₀.reducesTo_S32x1000000_S32_d1 x (Ideal.ofBits .f32 0x00000000#32) (row r) = _
  rw [Ideal.hostReduceAdd_single _ reduces_rows, zero_value]
  exact congrArg (fun t : EReal => 0 + t) (Finset.sum_congr rfl fun k _ => congrArg x (lift_rows r k))

/-- The softmax: for each row a greatest logit, and the quotient of the exponentials of the differences from it. -/
theorem softmax_read (h : Solves W softmaxOps) (r : Fin 32) : ∃ m : EReal, (∀ k, given W (entry r k) ≤ m)
    ∧ (m = ⊥ ∨ ∃ k, given W (entry r k) = m)
    ∧ ∀ k, (rd W (.of main_v12 : TRef sig fW) (entry r k) : EReal)
      = Ideal.div (Ideal.exp (given W (entry r k) - m)) (0 + ∑ k', Ideal.exp (given W (entry r k') - m)) := by
  simp only [softmaxOps, solves_cons] at h
  obtain ⟨h1, h2, h3, h4, h5, h6, h7, h8, h9, h10, h11, h12, h13, h14, h15, h16, h17, -⟩ := h
  have e1 : rd W (.of main_v1 : TRef sig fW) = given W := by
    rw [rd_binary h3, rd_unary h2, rd_nullary h1]
    funext j
    show Ideal.div (given W j) (Ideal.ofBits .f32 0x3F800000#32) = _
    rw [one_value, div_one]
  have e2 : (rd W (.of main_v2 : TRef sig fR) (row r) : EReal)
      = (Finset.univ : Finset (Fin 1000000)).fold max ⊥ fun k => given W (entry r k) := by
    rw [rd_binary h5, rd_nullary h4, e1]
    refine (Host.reduce_eq_fold_single (FloatOps.maximumf (F := Ideal) (φ := .f32)) _ _ Facts₀.reducesTo_S32x1000000_S32_d1 reduces_rows
      Facts₀.h_S_ (row r)).trans ?_
    show Finset.fold max (Ideal.ofBits .f32 0xFF800000#32) _ _ = _
    rw [bot_value]
    exact congrArg (fun g => Finset.fold max ⊥ g Finset.univ) (funext fun k => congrArg (given W) (lift_rows r k))
  have e4 : (rd W (.of main_v4 : TRef sig fR) (row r) : EReal)
      = (Finset.univ : Finset (Fin 1000000)).fold max ⊥ fun k => given W (entry r k) := by
    rw [rd_binary h8, rd_unary h7, rd_nullary h6]
    show max (Ideal.ofBits .f32 0xFF800000#32) (rd W (.of main_v2 : TRef sig fR) (row r) : EReal) = _
    rw [bot_value, e2]
    exact max_eq_right bot_le
  have e8 : ∀ k, (rd W (.of main_v8 : TRef sig fW) (entry r k) : EReal)
      = Ideal.exp (given W (entry r k) - rd W (.of main_v4 : TRef sig fR) (row r)) := fun k => by
    rw [rd_unary h12, rd_binary h11, rd_unary h10, rd_unary h9, e1]
    exact exp_rows _ _ r k
  have e9 : (rd W (.of main_v9 : TRef sig fR) (row r) : EReal) = 0 + ∑ k, (rd W (.of main_v8 : TRef sig fW) (entry r k) : EReal) := by
    rw [rd_binary h14, rd_nullary h13]
    exact sum_rows _ r
  have above : ∀ k, given W (entry r k) ≤ (Finset.univ : Finset (Fin 1000000)).fold max ⊥ fun k => given W (entry r k) := fun k =>
    (Finset.le_fold_max _).2 (.inr ⟨k, Finset.mem_univ k, le_rfl⟩)
  refine ⟨rd W (.of main_v4 : TRef sig fR) (row r), ?_, ?_, fun k => ?_⟩
  rotate_left 2
  · rw [rd_binary h17, rd_unary h16, rd_unary h15]
    refine (div_rows _ _ r k).trans ?_
    rw [e9, e8, Finset.sum_congr rfl fun k' _ => e8 k']
  · rw [e4]
    exact above
  · rw [e4]
    rcases (Finset.le_fold_max _).1 (le_refl ((Finset.univ : Finset (Fin 1000000)).fold max ⊥ fun k => given W (entry r k))) with g | ⟨k, -, g⟩
    · exact .inl (le_bot_iff.1 g)
    · exact .inr ⟨k, le_antisymm (above k) g⟩

/-- The sum whose argument maximum is taken, at an entry. -/
theorem sum_read (h : Solves W sumOps) (j : S32x1000000.Idx) : (rd W (.of main_v51 : TRef sig fW) j : EReal)
    = Ideal.log (rd W (.of main_v12 : TRef sig fW) j) + rd W (.of main_v49 : TRef sig fW) j := by
  simp only [sumOps, solves_cons] at h
  obtain ⟨h1, h2, -⟩ := h
  rw [rd_binary h2, rd_unary h1]
  rfl

/-- The reference's result at a row: the argument maximum of the sum. -/
theorem column_read (ha : Solves W (argmaxOps (.of main_v51) main_call1)) (hc : Solves W columnOps) (j : S32x1.Idx) (r : Fin 32) (hr : j 0 = r) :
    ∃ k, FirstMax 1000000 (family (rd W (.of main_v51 : TRef sig fW)) r) k
      ∧ rd W (.of main_v53 : TRef sig iC) j = BitVec.ofNat 32 k := by
  simp only [argmaxOps, solves_cons] at ha
  obtain ⟨h1, h2, h3, h4, h5, -⟩ := ha
  simp only [columnOps, solves_cons] at hc
  obtain ⟨g1, -⟩ := hc
  obtain ⟨k, hk, e⟩ := argmax_first (rd W (.of main_v51 : TRef sig fW)) r
  refine ⟨k, hk, ?_⟩
  have e52 := rd_quaternary h5
  rw [rd_nullary h1, rd_nullary h2, rd_nullary h3] at e52
  rw [rd_unary g1]
  refine (shapeCast_apply _ _ j (row r) ?_).trans ?_
  · subst hr
    have h1 : (j 1).val < 1 := (j 1).isLt
    rw [Shape.rowMajor_val_one, Shape.rowMajor_val_two]
    show (j 0).val = (j 0).val * 1 + (j 1).val
    omega
  · exact (congrFun e52 (row r)).trans e

/-- The reference returns, of logits below `+∞`, each row's first position of the greatest perturbed logit. -/
theorem returned_first (h : Solves W ops) (hx : ∀ j, given W j < ⊤) (j : S32x1.Idx) (r : Fin 32) (hr : j 0 = r) :
    ∃ k, FirstMax 1000000 (total (given W) r) k ∧ rd W (.of main_v53 : TRef sig iC) j = BitVec.ofNat 32 k := by
  unfold ops at h
  simp only [solves_append] at h
  obtain ⟨hm, hs, hc, hd, hn, hv, ha, hl⟩ := h
  obtain ⟨k, hk, e⟩ := column_read ha hl j r hr
  obtain ⟨m, h1, h2, h3⟩ := softmax_read hm r
  have at_entry : ∀ q : Fin 1000000, (rd W (.of main_v51 : TRef sig fW) (entry r q) : EReal)
      = Ideal.log (Ideal.div (Ideal.exp (given W (entry r q) - m)) (0 + ∑ k', Ideal.exp (given W (entry r k') - m)))
        + noise (F := Ideal) (wordAt (r.val * 1000000 + q.val)) := fun q => by
    rw [sum_read hv, h3, noise_read hn, draw_words hs hc hd]
    rfl
  refine ⟨k, hk.of_order fun p hp q hq => ?_, e⟩
  rw [family_of_lt _ _ hp, family_of_lt _ _ hq, at_entry, at_entry]
  unfold total
  rw [dif_pos hp, dif_pos hq]
  exact softmax_order (fun k => given W (entry r k)) (fun k : Fin 1000000 => noise (F := Ideal) (wordAt (r.val * 1000000 + k.val)))
    (fun k => hx _) m h1 h2 ⟨p, hp⟩ ⟨q, hq⟩

end Cert.Sampler.Reference

end
-- ==== Proof.Value.lean ====
/- The value claim: of logits below `+∞` the kernel and the reference return the same positions. -/
module

public import proofs.«01_k».proof.Defs
public import proofs.«01_k».proof.Proof.Gen.Pre_no_plus_infinity
public import proofs.«01_k».proof.Proof.KernelResult
public import proofs.«01_k».proof.Proof.RefRead

@[expose] public section

set_option maxRecDepth 16384

noncomputable section

namespace Cert.Sampler

open Idealize.ShloMosaic Idealize.ShloMosaic.TcCoe Idealize.ShloMosaic.StableHlo Idealize.SL.Sem

attribute [local instance] Cert.KernelIdeal.Gen.facts Cert.ReferenceIdeal.Gen.facts Cert.Pre_no_plus_infinity.Gen.facts

/-- The precondition bounds every logit. -/
theorem logits_lt_top {m : (ℓ : Loc Cert.KernelIdeal.nD Cert.KernelIdeal.τ Cert.KernelIdeal.sig) → Buf (Elt Ideal) ℓ}
    (h : Cert.Pre_KernelIdeal_no_plus_infinity m) (c : Dev Cert.KernelIdeal.nD) (j : Cert.KernelIdeal.S32x1000000.Idx) : logits m c j < ⊤ := by
  have e : BitVec.ofBool (decide (logits m c j < Ideal.ofBits .f32 0x7F800000#32)) = 1#1 := congrFun (h c) j
  rw [top_value] at e
  by_contra hn
  rw [decide_eq_false hn] at e
  exact absurd e (by decide)

/-- What the reference leaves is what the kernel draws. -/
theorem returned_eq_drawn {m : (ℓ : Loc Cert.KernelIdeal.nD Cert.KernelIdeal.τ Cert.KernelIdeal.sig) → Buf (Elt Ideal) ℓ}
    (h : Cert.Pre_KernelIdeal_no_plus_infinity m) (c : Dev Cert.KernelIdeal.nD)
    (W : Valuation Cert.ReferenceIdeal.τ Cert.ReferenceIdeal.sig (Elt Ideal)) (hW : Reference.Solves W Reference.ops)
    (hg : Reference.given W = logits m c) :
    Reference.rd W (.of Cert.ReferenceIdeal.main_v53 : TRef Cert.ReferenceIdeal.sig Reference.iC) = drawn (F := Ideal) m c := by
  funext j
  obtain ⟨k, hk, e⟩ := Reference.returned_first hW (fun i => by rw [hg]; exact logits_lt_top h c i) j (j 0) rfl
  obtain ⟨l, hl, e'⟩ := drawn_first m c j
  rw [hg] at hk
  rw [hk.unique hl] at e
  exact e.trans e'.symm

/-- Of logits below `+∞` the kernel and the reference return the same positions. -/
theorem value : Cert.algebraic_KernelIdeal_ReferenceIdeal_pre_no_plus_infinity (hKernelIdeal := Cert.KernelIdeal.Gen.facts)
    (hReferenceIdeal := Cert.ReferenceIdeal.Gen.facts) (hPre_no_plus_infinity := Cert.Pre_no_plus_infinity.Gen.facts) := fun m g m' g' hp hm =>
  ⟨drawn (F := Ideal) m, result m g, θ_run_mono (Reference.run m' g') fun r h c => by
    obtain ⟨keep, W, hW, hr⟩ := h.1 c
    refine ⟨(hr Cert.ReferenceIdeal.main_v53).trans (returned_eq_drawn hp c W hW ?_), keep⟩
    exact ((hr Cert.ReferenceIdeal.main_arg0).symm.trans keep).trans (hm c)⟩

end Cert.Sampler

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_plus_infinity
public import proofs.«01_k».proof.Proof.KernelFrame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_no_plus_infinity.Gen.facts, by
  exact ⟨Cert.Sampler.frame_kernel, Cert.Sampler.frame_ideal, Cert.Sampler.frame_ideal_pre, Cert.Sampler.Reference.frame,
    Cert.Sampler.Reference.frame_pre, trivial, Cert.Sampler.value⟩⟩

end Cert.Proof

end
